-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x28 : Shape := ⟨2, ![16384, 28]⟩
abbrev S100000x16 : Shape := ⟨2, ![100000, 16]⟩
abbrev S64x58 : Shape := ⟨2, ![64, 58]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S16384x1 : Shape := ⟨2, ![16384, 1]⟩
abbrev S16384 : Shape := ⟨1, ![16384]⟩
abbrev S_ : Shape := ⟨0, ![]⟩

class Facts : Prop where
  slices_S16384x28_S16384x1_0_0 : S16384x28.Slices ![0, 0] S16384x1
  shapeCasts_S16384x1_S16384 : S16384x1.ShapeCasts S16384
  slices_S16384x28_S16384x1_0_1 : S16384x28.Slices ![0, 1] S16384x1
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x28 .f32) (main_arg1 : FVec F S100000x16 .f32) (main_arg2 : FVec F S100000x16 .f32) (main_arg3 : FVec F S64x58 .f32) (main_arg4 : FVec F S64 .f32) (main_arg5 : FVec F S32x64 .f32) (main_arg6 : FVec F S32 .f32) (main_arg7 : FVec F S16x32 .f32) (main_arg8 : FVec F S16 .f32) (main_arg9 : FVec F S1x16 .f32) (main_arg10 : FVec F S1 .f32) : IVec S_ 1 :=
  let main_v0 : FVec F S16384x1 .f32 := (extractStridedSlice S16384x1 ![0, 0] · slices_S16384x28_S16384x1_0_0) main_arg0
  let main_v1 : FVec F S16384 .f32 := shapeCast S16384 main_v0 shapeCasts_S16384x1_S16384
  let main_v2 : IVec S16384 32 := fptosi 32 main_v1
  let main_v3 : FVec F S16384x1 .f32 := (extractStridedSlice S16384x1 ![0, 1] · slices_S16384x28_S16384x1_0_1) main_arg0
  let main_v4 : FVec F S16384 .f32 := shapeCast S16384 main_v3 shapeCasts_S16384x1_S16384
  let main_v5 : IVec S16384 32 := fptosi 32 main_v4
  let main_c : IVec S_ 32 := constantI S_ 32 0#32
  let main_v6 : IVec S16384 32 := broadcastInDim S16384 ![] bcast_S_S16384 main_c
  let main_v7 : IVec S16384 1 := cmpi .sge main_v2 main_v6
  let main_c_0 : IVec S_ 32 := constantI S_ 32 100000#32
  let main_v8 : IVec S16384 32 := broadcastInDim S16384 ![] bcast_S_S16384 main_c_0
  let main_v9 : IVec S16384 1 := cmpi .slt main_v2 main_v8
  let main_v10 : IVec S16384 1 := andi main_v7 main_v9
  let main_c_1 : IVec S_ 32 := constantI S_ 32 0#32
  let main_v11 : IVec S16384 32 := broadcastInDim S16384 ![] bcast_S_S16384 main_c_1
  let main_v12 : IVec S16384 1 := cmpi .sge main_v5 main_v11
  let main_c_2 : IVec S_ 32 := constantI S_ 32 100000#32
  let main_v13 : IVec S16384 32 := broadcastInDim S16384 ![] bcast_S_S16384 main_c_2
  let main_v14 : IVec S16384 1 := cmpi .slt main_v5 main_v13
  let main_v15 : IVec S16384 1 := andi main_v12 main_v14
  let main_v16 : IVec S16384 1 := andi main_v10 main_v15
  let main_c_3 : IVec S_ 1 := constantI S_ 1 1#1
  let main_v17 : IVec S_ 1 := (fun x v => Host.reduce IntOp.andi x v reducesTo_S16384_S_d0 h_S_) main_v16 main_c_3
  main_v17
-- ==== Kernel.lean ====
abbrev S16384x28 : Shape := ⟨2, ![16384, 28]⟩
abbrev S100000x16 : Shape := ⟨2, ![100000, 16]⟩
abbrev S64x58 : Shape := ⟨2, ![64, 58]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S16384x1 : Shape := ⟨2, ![16384, 1]⟩
abbrev S16384 : Shape := ⟨1, ![16384]⟩
abbrev S16384x26 : Shape := ⟨2, ![16384, 26]⟩
abbrev S16384x16 : Shape := ⟨2, ![16384, 16]⟩
abbrev S4x128 : Shape := ⟨2, ![4, 128]⟩
abbrev S512x16 : Shape := ⟨2, ![512, 16]⟩
abbrev S_ : Shape := ⟨0, ![]⟩
abbrev S1x128 : Shape := ⟨2, ![1, 128]⟩
abbrev S128 : Shape := ⟨1, ![128]⟩
abbrev S128x16 : Shape := ⟨2, ![128, 16]⟩
abbrev S58x64 : Shape := ⟨2, ![58, 64]⟩
abbrev S16x64 : Shape := ⟨2, ![16, 64]⟩
abbrev S26x64 : Shape := ⟨2, ![26, 64]⟩
abbrev S1x64 : Shape := ⟨2, ![1, 64]⟩
abbrev S64x32 : Shape := ⟨2, ![64, 32]⟩
abbrev S1x32 : Shape := ⟨2, ![1, 32]⟩
abbrev S32x16 : Shape := ⟨2, ![32, 16]⟩
abbrev S1x1 : Shape := ⟨2, ![1, 1]⟩
abbrev S2048x16 : Shape := ⟨2, ![2048, 16]⟩
abbrev S2048x26 : Shape := ⟨2, ![2048, 26]⟩
abbrev S2048x1 : Shape := ⟨2, ![2048, 1]⟩
abbrev S2048x64 : Shape := ⟨2, ![2048, 64]⟩
abbrev S2048x32 : Shape := ⟨2, ![2048, 32]⟩
abbrev S2048 : Shape := ⟨1, ![2048]⟩

abbrev nBuf : Table → Nat
  | .hbm => 31
  | .local .tc .vmem => 18
  | .local .scVector .vmem => 4
  | _ => 0

abbrev bufTy : (tb : Table) → Fin (nBuf tb) → BufTy
  | .hbm, ⟨0, _⟩ => ⟨S16384x28, .f32⟩
  | .hbm, ⟨1, _⟩ => ⟨S100000x16, .f32⟩
  | .hbm, ⟨2, _⟩ => ⟨S100000x16, .f32⟩
  | .hbm, ⟨3, _⟩ => ⟨S64x58, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S1x16, .f32⟩
  | .hbm, ⟨10, _⟩ => ⟨S1, .f32⟩
  | .hbm, ⟨11, _⟩ => ⟨S16384x1, .f32⟩
  | .hbm, ⟨12, _⟩ => ⟨S16384, .f32⟩
  | .hbm, ⟨13, _⟩ => ⟨S16384, .i32⟩
  | .hbm, ⟨14, _⟩ => ⟨S16384x1, .f32⟩
  | .hbm, ⟨15, _⟩ => ⟨S16384, .f32⟩
  | .hbm, ⟨16, _⟩ => ⟨S16384, .i32⟩
  | .hbm, ⟨17, _⟩ => ⟨S16384x26, .f32⟩
  | .hbm, ⟨18, _⟩ => ⟨S16384x16, .f32⟩
  | .hbm, ⟨19, _⟩ => ⟨S16384x16, .f32⟩
  | .hbm, ⟨20, _⟩ => ⟨S58x64, .f32⟩
  | .hbm, ⟨21, _⟩ => ⟨S16x64, .f32⟩
  | .hbm, ⟨22, _⟩ => ⟨S16x64, .f32⟩
  | .hbm, ⟨23, _⟩ => ⟨S26x64, .f32⟩
  | .hbm, ⟨24, _⟩ => ⟨S1x64, .f32⟩
  | .hbm, ⟨25, _⟩ => ⟨S64x32, .f32⟩
  | .hbm, ⟨26, _⟩ => ⟨S1x32, .f32⟩
  | .hbm, ⟨27, _⟩ => ⟨S32x16, .f32⟩
  | .hbm, ⟨28, _⟩ => ⟨S1x16, .f32⟩
  | .hbm, ⟨29, _⟩ => ⟨S1x1, .f32⟩
  | .hbm, ⟨30, _⟩ => ⟨S16384x1, .f32⟩
  | .local .tc .vmem, ⟨0, _⟩ => ⟨S2048x16, .f32⟩
  | .local .tc .vmem, ⟨1, _⟩ => ⟨S2048x16, .f32⟩
  | .local .tc .vmem, ⟨2, _⟩ => ⟨S2048x16, .f32⟩
  | .local .tc .vmem, ⟨3, _⟩ => ⟨S2048x16, .f32⟩
  | .local .tc .vmem, ⟨4, _⟩ => ⟨S2048x26, .f32⟩
  | .local .tc .vmem, ⟨5, _⟩ => ⟨S2048x26, .f32⟩
  | .local .tc .vmem, ⟨6, _⟩ => ⟨S16x64, .f32⟩
  | .local .tc .vmem, ⟨7, _⟩ => ⟨S16x64, .f32⟩
  | .local .tc .vmem, ⟨8, _⟩ => ⟨S26x64, .f32⟩
  | .local .tc .vmem, ⟨9, _⟩ => ⟨S1x64, .f32⟩
  | .local .tc .vmem, ⟨10, _⟩ => ⟨S64x32, .f32⟩
  | .local .tc .vmem, ⟨11, _⟩ => ⟨S1x32, .f32⟩
  | .local .tc .vmem, ⟨12, _⟩ => ⟨S32x16, .f32⟩
  | .local .tc .vmem, ⟨13, _⟩ => ⟨S1x16, .f32⟩
  | .local .tc .vmem, ⟨14, _⟩ => ⟨S1x16, .f32⟩
  | .local .tc .vmem, ⟨15, _⟩ => ⟨S1x1, .f32⟩
  | .local .tc .vmem, ⟨16, _⟩ => ⟨S2048x1, .f32⟩
  | .local .tc .vmem, ⟨17, _⟩ => ⟨S2048x1, .f32⟩
  | .local .scVector .vmem, ⟨0, _⟩ => ⟨S4x128, .i32⟩
  | .local .scVector .vmem, ⟨1, _⟩ => ⟨S4x128, .i32⟩
  | .local .scVector .vmem, ⟨2, _⟩ => ⟨S512x16, .f32⟩
  | .local .scVector .vmem, ⟨3, _⟩ => ⟨S512x16, .f32⟩
  | _, _ => ⟨S16384x28, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v2_scv : Ref sig .scVector := ⟨.hbm, 13, rfl⟩
abbrev main_v5_scv : Ref sig .scVector := ⟨.hbm, 16, rfl⟩
abbrev main_arg1_scv : Ref sig .scVector := ⟨.hbm, 1, rfl⟩
abbrev main_arg2_scv : Ref sig .scVector := ⟨.hbm, 2, rfl⟩
abbrev main_v7_0_scv : Ref sig .scVector := ⟨.hbm, 18, rfl⟩
abbrev main_v7_1_scv : Ref sig .scVector := ⟨.hbm, 19, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg13_1 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem13_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_106_r8 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x26 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S26x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2048x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x28 : Shape := ⟨2, ![16384, 28]⟩
abbrev S100000x16 : Shape := ⟨2, ![100000, 16]⟩
abbrev S64x58 : Shape := ⟨2, ![64, 58]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S16384x1 : Shape := ⟨2, ![16384, 1]⟩
abbrev S16384 : Shape := ⟨1, ![16384]⟩
abbrev S16384x26 : Shape := ⟨2, ![16384, 26]⟩
abbrev S_ : Shape := ⟨0, ![]⟩
abbrev S1x1 : Shape := ⟨2, ![1, 1]⟩
abbrev S16384x16 : Shape := ⟨2, ![16384, 16]⟩
abbrev S16384x58 : Shape := ⟨2, ![16384, 58]⟩
abbrev S58x64 : Shape := ⟨2, ![58, 64]⟩
abbrev S16384x64 : Shape := ⟨2, ![16384, 64]⟩
abbrev S1x64 : Shape := ⟨2, ![1, 64]⟩
abbrev S64x32 : Shape := ⟨2, ![64, 32]⟩
abbrev S16384x32 : Shape := ⟨2, ![16384, 32]⟩
abbrev S1x32 : Shape := ⟨2, ![1, 32]⟩
abbrev S32x16 : Shape := ⟨2, ![32, 16]⟩
abbrev S16x1 : Shape := ⟨2, ![16, 1]⟩

abbrev nBuf : Space → Nat
  | .hbm => 102
  | .vmem => 0
  | .smem => 0
  | _ => 0

abbrev bufTy : (tb : Table) → Fin (tcTables nBuf tb) → BufTy
  | .hbm, ⟨0, _⟩ => ⟨S16384x28, .f32⟩
  | .hbm, ⟨1, _⟩ => ⟨S100000x16, .f32⟩
  | .hbm, ⟨2, _⟩ => ⟨S100000x16, .f32⟩
  | .hbm, ⟨3, _⟩ => ⟨S64x58, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S1x16, .f32⟩
  | .hbm, ⟨10, _⟩ => ⟨S1, .f32⟩
  | .hbm, ⟨11, _⟩ => ⟨S16384x1, .f32⟩
  | .hbm, ⟨12, _⟩ => ⟨S16384, .f32⟩
  | .hbm, ⟨13, _⟩ => ⟨S16384, .i32⟩
  | .hbm, ⟨14, _⟩ => ⟨S16384x1, .f32⟩
  | .hbm, ⟨15, _⟩ => ⟨S16384, .f32⟩
  | .hbm, ⟨16, _⟩ => ⟨S16384, .i32⟩
  | .hbm, ⟨17, _⟩ => ⟨S16384x26, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S1, .i32⟩
  | .hbm, ⟨27, _⟩ => ⟨S_, .i32⟩
  | .hbm, ⟨28, _⟩ => ⟨S16384x1, .i32⟩
  | .hbm, ⟨29, _⟩ => ⟨S16384x1, .i1⟩
  | .hbm, ⟨30, _⟩ => ⟨S1x1, .i32⟩
  | .hbm, ⟨31, _⟩ => ⟨S16384x1, .i32⟩
  | .hbm, ⟨32, _⟩ => ⟨S16384x1, .i1⟩
  | .hbm, ⟨33, _⟩ => ⟨S16384x1, .i1⟩
  | .hbm, ⟨34, _⟩ => ⟨S_, .i1⟩
  | .hbm, ⟨35, _⟩ => ⟨S16384, .i1⟩
  | .hbm, ⟨36, _⟩ => ⟨S16384x16, .f32⟩
  | .hbm, ⟨37, _⟩ => ⟨S16384x16, .i1⟩
  | .hbm, ⟨38, _⟩ => ⟨S_, .f32⟩
  | .hbm, ⟨39, _⟩ => ⟨S16384x16, .f32⟩
  | .hbm, ⟨40, _⟩ => ⟨S16384x16, .f32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S1, .i32⟩
  | .hbm, ⟨50, _⟩ => ⟨S_, .i32⟩
  | .hbm, ⟨51, _⟩ => ⟨S16384x1, .i32⟩
  | .hbm, ⟨52, _⟩ => ⟨S16384x1, .i1⟩
  | .hbm, ⟨53, _⟩ => ⟨S1x1, .i32⟩
  | .hbm, ⟨54, _⟩ => ⟨S16384x1, .i32⟩
  | .hbm, ⟨55, _⟩ => ⟨S16384x1, .i1⟩
  | .hbm, ⟨56, _⟩ => ⟨S16384x1, .i1⟩
  | .hbm, ⟨57, _⟩ => ⟨S_, .i1⟩
  | .hbm, ⟨58, _⟩ => ⟨S16384, .i1⟩
  | .hbm, ⟨59, _⟩ => ⟨S16384x16, .f32⟩
  | .hbm, ⟨60, _⟩ => ⟨S16384x16, .i1⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S16384x58, .f32⟩
  | .hbm, ⟨65, _⟩ => ⟨S58x64, .f32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S64x32, .f32⟩
  | .hbm, ⟨74, _⟩ => ⟨S16384x32, .f32⟩
  | .hbm, ⟨75, _⟩ => ⟨S1x32, .f32⟩
  | .hbm, ⟨76, _⟩ => ⟨S16384x32, .f32⟩
  | .hbm, ⟨77, _⟩ => ⟨S16384x32, .f32⟩
  | .hbm, ⟨78, _⟩ => ⟨S_, .f32⟩
  | .hbm, ⟨79, _⟩ => ⟨S16384x32, .f32⟩
  | .hbm, ⟨80, _⟩ => ⟨S16384x32, .f32⟩
  | .hbm, ⟨81, _⟩ => ⟨S32x16, .f32⟩
  | .hbm, ⟨82, _⟩ => ⟨S16384x16, .f32⟩
  | .hbm, ⟨83, _⟩ => ⟨S1x16, .f32⟩
  | .hbm, ⟨84, _⟩ => ⟨S16384x16, .f32⟩
  | .hbm, ⟨85, _⟩ => ⟨S16384x16, .f32⟩
  | .hbm, ⟨86, _⟩ => ⟨S_, .f32⟩
  | .hbm, ⟨87, _⟩ => ⟨S16384x16, .f32⟩
  | .hbm, ⟨88, _⟩ => ⟨S16384x16, .f32⟩
  | .hbm, ⟨89, _⟩ => ⟨S16x1, .f32⟩
  | .hbm, ⟨90, _⟩ => ⟨S16384x1, .f32⟩
  | .hbm, ⟨91, _⟩ => ⟨S1x1, .f32⟩
  | .hbm, ⟨92, _⟩ => ⟨S16384x1, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | _, _ => ⟨S16384x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v7 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_call2_cst : Ref sig .tc := ⟨.hbm, 70, rfl⟩
abbrev main_call2_v0 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_call3_cst : Ref sig .tc := ⟨.hbm, 78, rfl⟩
abbrev main_call3_v0 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_call4_cst : Ref sig .tc := ⟨.hbm, 86, rfl⟩
abbrev main_call4_v0 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst : Ref sig .tc := ⟨.hbm, 96, rfl⟩
abbrev main_v35 : Ref sig .tc := ⟨.hbm, 97, rfl⟩
abbrev main_v36 : Ref sig .tc := ⟨.hbm, 98, rfl⟩
abbrev main_cst_0 : Ref sig .tc := ⟨.hbm, 99, rfl⟩
abbrev main_v37 : Ref sig .tc := ⟨.hbm, 100, rfl⟩
abbrev main_v38 : Ref sig .tc := ⟨.hbm, 101, rfl⟩

abbrev nD : Nat := 1
abbrev τ : Topo := Topo.v7x

variable {F : FTy → Type} [FloatOps F]
-- ==== Proof.GatherBatch.lean ====
/-
  Several indirect gathers in flight on ONE semaphore. Each gather is a stream of row transfers; `G` gathers of
  `o` rows each are one batch (Lib/Batch.lean) of `G * o` transfers of equal credit, row `j` of gather `g` being the
  batch's transfer `(g, j)`. The batch is opened before the first issue (`gathers_alloc`), every issue
  (`wp_gatherIssue`) spends its gather's `o` issue rights and returns its credit, and once all are issued the pieces
  make the batch (`gathers_batch`) that the waits consume; the last wait hands back every row's delivery, and the
  rows of one gather are the gather done (`gathered_join`).
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic
open Idealize.SL Idealize.SL.RA
open Idealize.SL.BI (sProp Storable bigSep bigSep_sep')
open scoped Idealize.SL.BI
open Idealize.SL.BI.BIBase Idealize.SL.BI.Laws Idealize.SL.Sem Idealize.SL.ProofMode
open Idealize.ShloMosaic.SparseCore

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## The batch of all rows of all gathers -/

section Family

variable {G o : ℕ}

/-- The deliveries of `G` gathers of `o` rows as one family. -/
def fam (A : Fin G → Fin o → sProp 𝕄) (t : Fin (G * o)) : sProp 𝕄 := A (finProdFinEquiv.symm t).1 (finProdFinEquiv.symm t).2

instance fam_storable (A : Fin G → Fin o → sProp 𝕄) [∀ g j, Storable (upEmb : UEmb _ 𝕄) (A g j)] (t : Fin (G * o)) :
    Storable (upEmb : UEmb _ 𝕄) (fam A t) := by unfold fam; infer_instance

theorem fam_at (A : Fin G → Fin o → sProp 𝕄) (g : Fin G) (j : Fin o) : fam A (finProdFinEquiv (g, j)) = A g j := by
  unfold fam; rw [Equiv.symm_apply_apply]

/-- A separating conjunction over the batch, gather by gather. -/
theorem bigSep_grid (Φ : Fin (G * o) → sProp 𝕄) :
    bigSep Finset.univ Φ = bigSep Finset.univ fun g : Fin G => bigSep Finset.univ fun j : Fin o => Φ (finProdFinEquiv (g, j)) := by
  rw [BI.bigSep_univ_equiv finProdFinEquiv Φ, BI.bigSep_univ_prod]

variable (EC : UEmb Counters (MT nD τ sig Ix (Elt F) Name U Lvl))

/-- The semaphore at zero opens the batch: per gather its rows' issue rights. -/
theorem gathers_alloc [Infinite Name] [EC.LandsIn (upEmb : UEmb _ 𝕄)] {g : GSem nD τ sig} (N : ℕ) (A : Fin G → Fin o → sProp 𝕄)
    [∀ g j, Storable (upEmb : UEmb _ 𝕄) (A g j)] {E : Set Name} :
    (semVal g 0 : sProp 𝕄)
      ⊢ |={E}=> iprop(∃ (γ : Fin (G * o) → ℕ) (γ₀ : ℕ) (κ : Name),
          inv κ (Transfers.batchBody EC g N (fam A) γ γ₀) ∗ count EC γ₀ 0
            ∗ bigSep Finset.univ fun g : Fin G => bigSep Finset.univ fun j : Fin o => count EC (γ (finProdFinEquiv (g, j))) 0) := by
  iintro Hv
  imod (Transfers.batch_alloc EC N (fam A) (g := g) (E := E)) $$ Hv with ⟨%γ, %γ₀, %κ, Hinv, H0, Hc⟩
  imodintro
  iexists γ, γ₀, κ
  isplitl [Hinv]; · iexact Hinv
  isplitl [H0]; · iexact H0
  iapply (Entails.of_eq (bigSep_grid _)) $$ Hc

/-- Everything issued: the invariant, the consumer's count and the issues' credit are the batch at its waits. -/
theorem gathers_batch (c : Thread nD τ) (sm : SemLoc sig) (ι : Ix) (N : ℕ) (A : Fin G → Fin o → sProp 𝕄) (γ : Fin (G * o) → ℕ) (γ₀ : ℕ) (κ : Name) :
    iprop(inv κ (Transfers.batchBody EC (c, sm) N (fam A) γ γ₀) ∗ count EC γ₀ 0 ∗ cred (tallyAt (c, sm) ι (G * o * N)))
      ⊢ Transfers.Batch EC c sm ι N (fam A) (G * o) 0 := by
  unfold Transfers.Batch
  iintro ⟨Hinv, H0, Hc⟩
  iexists γ, γ₀, κ
  isplitl [Hinv]; · iexact Hinv
  isplitr
  · rw [show Transfers.pending (n := G * o) (G * o) = ∅ from Finset.filter_eq_empty_iff.mpr fun t _ => by have := t.isLt; omega]
    rw [BI.bigSep_empty]; iempintro
  isplitl [H0]; · iexact H0
  rw [Nat.sub_zero]; iexact Hc

end Family

/-! ## One gather's rows -/

section Issue

variable (EC : UEmb Counters (MT nD τ sig Ix (Elt F) Name U Lvl)) (c : Thread nD τ)
variable {sp : Space} {s₀ s si : Shape} {e : EltTy} {a : Nat}
variable (src : Memref sig c.2.kind sp s₀ e) (dst : Memref sig c.2.kind .vmem s e) (hg : s₀.Gathers a s)
  (offs : Memref sig c.2.kind .vmem si .i32) (hn : si.numel = s.size hg.axis') (q qo : PosShare TreeShare)
  (fs : Buf (Elt F) (src.view.loc c)) (fd : Buf (Elt F) (dst.view.loc c)) (fo : Buf (Elt F) (offs.view.loc c))
  (hs : 0 < s.numel) (hin : ∀ x, (offs.view.read (Elt F) fo x).toNat < s₀.size hg.axis)

/-- Where the list keeps the id of row `j`. -/
def idAt (j : Fin (s.size hg.axis')) : si.Idx := si.rowMajor.symm (j.cast hn.symm)

theorem idAt_bijective : Function.Bijective (idAt hg hn) := by
  refine ⟨fun j j' h => ?_, fun x => ⟨(si.rowMajor x).cast hn, ?_⟩⟩
  · exact Fin.ext (congrArg Fin.val (si.rowMajor.symm.injective h) :)
  · exact si.rowMajor.symm_apply_apply x

/-- Row `j` of the destination. -/
abbrev slot (j : Fin (s.size hg.axis')) : Memref sig c.2.kind .vmem (s.rowShape hg.axis') e :=
  dst.slice (s.rowRect hg.axis' j) (s.stride_rowRect hg.axis' j)

/-- The share of its id that row `j` travels with. -/
abbrev idPart (j : Fin (s.size hg.axis')) : sProp 𝕄 := offs.view.loc c ↦[{offs.view.emb (idAt hg hn j)}]{qo} fo

/-- The share of the source that row `j` travels with. -/
abbrev srcPart (j : Fin (s.size hg.axis')) : sProp 𝕄 :=
  src.view.loc c ↦[src.view.set]{pieceOf q _ (Shape.size_pos_of_numel_pos hs hg.axis') j} fs

/-- The words of row `j` of a gather: the source's row that entry `j` of the list names. -/
def rowPay (j : Fin (s.size hg.axis')) (i : (s.rowShape hg.axis').Idx) : Elt F e :=
  src.view.read (Elt F) fs (hg.rowIdx (rows (offs.view.read (Elt F) fo) hn hin j) i)

/-- What row `j` of a gather delivers: its id back, the destination's row written, and its share of the source back. -/
def rowDone (j : Fin (s.size hg.axis')) : sProp 𝕄 :=
  iprop(idPart c hg offs hn qo fo j
    ∗ ((slot c dst hg j).view.loc c ↦[(slot c dst hg j).view.set]{fullShare}
        (slot c dst hg j).view.write (Elt F) fd (rowPay c src hg offs hn fs fo hin j) Finset.univ)
    ∗ srcPart c src hg q fs hs j)

instance rowDone_storable (j : Fin (s.size hg.axis')) :
    Storable (upEmb : UEmb _ 𝕄) (rowDone (F := F) (Name := Name) (U := U) (Lvl := Lvl) (Ix := Ix) c src dst hg offs hn q qo fs fd fo hs hin j) := by
  unfold rowDone; infer_instance

/-- A gather's list, destination and source, cut into what each row travels with. -/
theorem gather_parts :
    iprop((offs.view.loc c ↦[offs.view.set]{qo} fo : sProp 𝕄) ∗ (dst.view.loc c ↦[dst.view.set]{fullShare} fd) ∗ (src.view.loc c ↦[src.view.set]{q} fs))
      = bigSep Finset.univ fun j => iprop(idPart c hg offs hn qo fo j
          ∗ ((slot c dst hg j).view.loc c ↦[(slot c dst hg j).view.set]{fullShare} fd) ∗ srcPart c src hg q fs hs j) := by
  rw [bigSep_sep', bigSep_sep', pointsTo_entries c offs.view _ (idAt_bijective hg hn), pointsTo_rows c dst.view hg.axis',
    pointsTo_piecesOf src.view.set fs (Shape.size_pos_of_numel_pos hs hg.axis')]
  rfl

/-- A gather's rows, all delivered, are the gather done: the destination written with the payload, the source's and the
    list's shares whole again. -/
theorem gathered_join :
    (bigSep Finset.univ (rowDone c src dst hg offs hn q qo fs fd fo hs hin) : sProp 𝕄)
      ⊢ iprop((dst.view.loc c ↦[dst.view.set]{fullShare}
            dst.view.write (Elt F) fd (gatherPayload hg (src.view.read (Elt F) fs) (rows (offs.view.read (Elt F) fo) hn hin)) Finset.univ)
          ∗ (src.view.loc c ↦[src.view.set]{q} fs) ∗ (offs.view.loc c ↦[offs.view.set]{qo} fo)) := by
  have hpay : ∀ j i, rowPay c src hg offs hn fs fo hin j i
      = gatherPayload hg (src.view.read (Elt F) fs) (rows (offs.view.read (Elt F) fo) hn hin) ((s.rowRect hg.axis' j).emb i) :=
    fun j i => congrArg (src.view.read (Elt F) fs) (Shape.Gathers.idx_rowRect_emb hg _ j i).symm
  unfold rowDone
  rw [bigSep_sep', bigSep_sep', pointsTo_entries c offs.view _ (idAt_bijective hg hn),
    pointsTo_piecesOf src.view.set fs (Shape.size_pos_of_numel_pos hs hg.axis')]
  iintro ⟨Hi, Hd, Hs⟩
  iframe Hi Hs
  iapply (pointsTo_rows_write c dst.view hg.axis' fd _ _ hpay); iexact Hd

section Engine

variable {sem : DmaSem sig} {hsrc : src.view.WordExact} {he : e.bits = 32} {hsp : sp = .hbm ∨ sp = .shared} {hr : s₀.StreamRows a}

/-- What the engine is handed for row `j`: the batch's issue right of the row pays for its landing, and the row's id,
    laid beside it, is part of the delivery. -/
theorem row_handed [EC.LandsIn (upEmb : UEmb _ 𝕄)] {N n : ℕ} {D : Fin n → sProp 𝕄} {γ : Fin n → ℕ} {γ₀ : ℕ} {κ : Name} {t : Fin n}
    (j : Fin (s.size hg.axis')) (hN : (slot c dst hg j).view.dmaCredit = N) (hD : rowDone c src dst hg offs hn q qo fs fd fo hs hin j ⊢ D t) :
    iprop(inv κ (Transfers.batchBody EC (c, SemLoc.dma sem) N D γ γ₀) ∗ count EC (γ t) 0 ∗ idPart c hg offs hn qo fo j
        ∗ ((slot c dst hg j).view.loc c ↦[(slot c dst hg j).view.set]{fullShare} fd) ∗ srcPart c src hg q fs hs j)
      ⊢ iprop(idPart c hg offs hn qo fo j ∗ (idPart c hg offs hn qo fo j
          -∗ rowRes c (gatherRow c src dst hg sem hsrc he hsp hr j (rows (offs.view.read (Elt F) fo) hn hin j)))) := by
  iintro ⟨Hinv, Ht, Hi, Hd, Hs⟩
  iframe Hi
  iintro Hi
  unfold rowRes
  iexists pieceOf q _ (Shape.size_pos_of_numel_pos hs hg.axis') j; iexists fs
  iexists ((slot c dst hg j).view.loc c ↦[(slot c dst hg j).view.set]{fullShare}
    (slot c dst hg j).view.write (Elt F) fd (rowPay c src hg offs hn fs fo hin j) Finset.univ)
  iframe Hs
  isplitl [Hd]
  · iapply (pointsTo_writeUpdate c (Finset.Subset.refl _)); iexact Hd
  rw [show (gatherRow c src dst hg sem hsrc he hsp hr j (rows (offs.view.read (Elt F) fo) hn hin j)).dst.view.amount (.dma sem) = N from hN]
  iapply (Transfers.batch_creditUpdate_with EC t (put := idPart c hg offs hn qo fo j) hD)
  iframe Hinv Ht Hi

/-- A gather's rows are credited alike whatever the ids. -/
theorem gather_agrees (m : ℕ) :
    (Stream.issued c offs.view hn sem (fun j w => (rowOf (s₀.size hg.axis) w).map (gatherRow (F := F) c src dst hg sem hsrc he hsp hr j)) m).RowsAgree := by
  have key : ∀ (j : Fin (s.size hg.axis')) (w : Option (Fin (s₀.size hg.axis))) (r : RowDma τ sig (Elt F) c.2 sem),
      w.map (gatherRow c src dst hg sem hsrc he hsp hr j) = some r → r.dst.view.dmaCredit = (slot c dst hg j).view.dmaCredit := by
    rintro j (_ | w) r h
    · nomatch h
    · cases h; rfl
  exact fun j _ _ _ _ h h' => (key j _ _ h).trans (key j _ _ h').symm

variable {defs : Defs nD τ sig (Elt F) Λ} (𝒱 : Variants) (bd : Option 𝒱.V) {α : Type} {Q : α → sProp (MT nD τ sig Ix (Elt F) Name U Lvl)}

/-- The issue of one gather of a batch: from its list (every entry in range), its destination, a share of its source,
    and its rows' issue rights, the tile continues with the gather's credit. -/
theorem wp_gatherIssue [EC.LandsIn (upEmb : UEmb _ 𝕄)] {hp : c.2.kind = .scVector} {k : PUnit → Prog (TpuEff nD τ sig (Elt F) Λ c.2) α}
    (ι : Ix) {N T n : ℕ} (hN : ∀ j, (slot c dst hg j).view.dmaCredit = N) (hT : s.size hg.axis' * N = T)
    {D : Fin n → sProp 𝕄} {γ : Fin n → ℕ} {γ₀ : ℕ} {κ : Name} (p : Fin (s.size hg.axis') → Fin n)
    (hD : ∀ j, rowDone c src dst hg offs hn q qo fs fd fo hs hin j ⊢ D (p j)) :
    iprop(inv κ (Transfers.batchBody EC (c, SemLoc.dma sem) N D γ γ₀) ∗ (bigSep Finset.univ fun j => count EC (γ (p j)) 0)
        ∗ (offs.view.loc c ↦[offs.view.set]{qo} fo) ∗ (dst.view.loc c ↦[dst.view.set]{fullShare} fd) ∗ (src.view.loc c ↦[src.view.set]{q} fs))
      ⊢ iprop((cred (tallyAt (c, SemLoc.dma sem) ι T) -∗ wp frame (wpE defs 𝒱 c bd) Set.univ (k ⟨⟩) Q)
          -∗ wp frame (wpE defs 𝒱 c bd) Set.univ (enqueueIndirectGather hp src dst hg offs hn sem hsrc he hsp hr >>= k) Q) := by
  have hsum : ∑ j, (slot c dst hg j).view.dmaCredit = T := by simp [hN, hT]
  have hword : ∀ j, rowOf (s₀.size hg.axis) (offs.view.read (Elt F) fo (idAt hg hn j)) = some (rows (offs.view.read (Elt F) fo) hn hin j) :=
    fun j => rowOf_of_lt (hin _)
  refine Entails.trans ?_ (wp_enqueueIndirectDma 𝒱 c bd Set.univ (qo := qo) (fo := fo)
    (rd := fun j => gatherRow c src dst hg sem hsrc he hsp hr j (rows (offs.view.read (Elt F) fo) hn hin j)) ι T
    (gather_agrees (hsp := hsp) (hr := hr) c src dst hg offs hn 0) (fun j => congrArg (Option.map _) (hword j)) hsum)
  rw [gather_parts c src dst hg offs hn q qo fs fd fo hs, ← bigSep_sep']
  exact Transfers.bigSep_mono_pers _ _ _ _ fun j _ => row_handed EC c src dst hg offs hn q qo fs fd fo hs hin j (hN j) (hD j)

end Engine

end Issue

end Cert.Proof.GatherBatch
-- ==== Proof.Ranges.lean ====
/-
  What the precondition says of the two columns of ids: read as naturals they name rows of the tables.
-/
module

public import proofs.«01_k».proof.Pre_in_range
public import proofs.«01_k».proof.Proof.Gen.Pre_in_range
public import Idealize.ShloMosaic.Lib.ReduceAll
public import Idealize.ShloMosaic.Lib.WordCmp

@[expose] public section

noncomputable section

namespace Cert.Proof.Ranges

open Idealize.ShloMosaic Idealize.ShloMosaic.WordCmp Cert.Pre_in_range Cert.Pre_in_range.Gen

variable {F : FTy → Type} [FloatOps F]

instance : Subsingleton S_.Idx := ⟨fun a b => funext fun i => i.elim0⟩

/-- A word in the range that the precondition asks for, as a natural. -/
theorem word_ok (v : BitVec 32) (h : IntOp.andi (IntOp.cmpi .sge v 0#32) (IntOp.cmpi .slt v 100000#32) = 1#1) : v.toNat < 100000 := by
  have e := andi_sge_zero_slt_ofNat (w := 32) (k := 100000) (by decide) v
  rw [show BitVec.ofNat 32 100000 = 100000#32 from rfl, h] at e
  by_contra hv
  rw [decide_eq_false hv] at e
  exact absurd e (by decide)

/-- Under the precondition every id, of either column, names a row. -/
theorem ids_ok (x : FVec F S16384x28 .f32) (a b : FVec F S100000x16 .f32) (w1 : FVec F S64x58 .f32) (b1 : FVec F S64 .f32) (w2 : FVec F S32x64 .f32)
    (b2 : FVec F S32 .f32) (w3 : FVec F S16x32 .f32) (b3 : FVec F S16 .f32) (wo : FVec F S1x16 .f32) (bo : FVec F S1 .f32)
    (h : Cert.Pre_in_range.fn x a b w1 b1 w2 b2 w3 b3 wo bo = fun _ => 1#1) (j : S16384.Idx) :
    (fptosi 32 (shapeCast S16384 (extractStridedSlice S16384x1 ![0, 0] x Facts.slices_S16384x28_S16384x1_0_0) Facts.shapeCasts_S16384x1_S16384) j).toNat < 100000
      ∧ (fptosi 32 (shapeCast S16384 (extractStridedSlice S16384x1 ![0, 1] x Facts.slices_S16384x28_S16384x1_0_1) Facts.shapeCasts_S16384x1_S16384) j).toNat < 100000 := by
  have e := congrFun h (fun i => i.elim0)
  dsimp only [Cert.Pre_in_range.fn] at e
  have e := Host.reduce_andi_all _ _ _ _ _ e j
  obtain ⟨ea, eb⟩ := IntOp.andi_eq_one.1 e
  exact ⟨word_ok _ ea, word_ok _ eb⟩

end Cert.Proof.Ranges

end
-- ==== Proof.SideKernelIdeal.lean ====
/-
  One side of the embedding kernel's tile: the four lists of 128 ids, the four gathers they drive out of a table, and
  the 512 gathered rows. Both tables' sides are the same code over different buffers, so everything here is stated
  over the buffers as parameters. `pick` is the value: row `y` of the result is the table's row that id `y` names.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.RunKernelIdeal

open Cert.KernelIdeal Cert.KernelIdeal.Gen

open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.GatherBatch

variable {F : FTy → Type}

/-! ## The value -/

/-- The index of a rank-one array at a position. -/
def oneIx (n : Fin 16384) : S16384.Idx := fun a => match a with | ⟨0, _⟩ => n
/-- The index of a table at a row number and a column; row numbers wrap, so that this is total. -/
def tabIx (n : ℕ) (l : Fin 16) : S100000x16.Idx := fun a => match a with
  | ⟨0, _⟩ => (⟨n % 100000, Nat.mod_lt _ (by decide)⟩ : Fin 100000)
  | ⟨1, _⟩ => l

/-- Row `y 0` of the picked array is the table's row that id `y 0` names. -/
def pick (tab : S100000x16.Idx → Elt F .f32) (ids : S16384.Idx → Elt F .i32) : S16384x16.Idx → Elt F .f32 :=
  fun y => tab (tabIx (BitVec.toNat (ids (oneIx (y 0)))) (y 1))

/-! ## The windows the tile addresses -/

theorem inbL : ∀ g : Fin 4, ∀ a, (![g.val, 0] : Fin 2 → ℕ) a + S1x128.size a ≤ S4x128.size a := by decide
theorem inbD : ∀ g : Fin 4, ∀ a, (![128 * g.val, 0] : Fin 2 → ℕ) a + S128x16.size a ≤ S512x16.size a := by decide

section Windows

variable (L : grid0.Coords)
variable (ids : Memref sig .scVector .hbm S16384 .i32) (tab : Memref sig .scVector .hbm S100000x16 .f32)
  (idx : Memref sig .scVector .vmem S4x128 .i32) (rws : Memref sig .scVector .vmem S512x16 .f32)
  (out : Memref sig .scVector .hbm S16384x16 .f32)

/-- The ids of gather `g`. -/
abbrev chunkI (g : Fin 4) : Memref sig .scVector .hbm S128 .i32 :=
  ids.slice (Rect.unit (s := S16384) (k0_off1 L (BitVec.ofNat 32 (128 * g.val))) S128.size (k0_off1_inb L g)) (fun _ => rfl)
/-- The list's row of gather `g`. -/
abbrev lrow (g : Fin 4) : Memref sig .scVector .vmem S128 .i32 :=
  (idx.slice (Rect.unit (s := S4x128) ![g.val, 0] S1x128.size (inbL g)) (fun _ => rfl)).squeeze S128 squeezes_S1x128_S128
/-- The 128 rows gather `g` fills. -/
abbrev dchunk (g : Fin 4) : Memref sig .scVector .vmem S128x16 .f32 :=
  rws.slice (Rect.unit (s := S512x16) ![128 * g.val, 0] S128x16.size (inbD g)) (fun _ => rfl)
/-- The table, whole. -/
abbrev tabAll : Memref sig .scVector .hbm S100000x16 .f32 :=
  tab.slice (Rect.unit (s := S100000x16) ![0, 0] S100000x16.size inb_S100000x16_S100000x16_0_0) (fun _ => rfl)
/-- The tile's 512 rows of the output. -/
abbrev oblk : Memref sig .scVector .hbm S512x16 .f32 :=
  out.slice (Rect.unit (s := S16384x16) (k0_off2 L) S512x16.size (k0_off2_inb L)) (fun _ => rfl)

theorem mem_lrect (g : Fin 4) (i : S4x128.Idx) : i ∈ (Rect.unit (s := S4x128) ![g.val, 0] S1x128.size (inbL g)).set ↔ (i 0).val = g.val := by
  rw [Rect.mem_set_unit]
  constructor
  · intro h; have h0 := h 0; simp at h0; omega
  · intro h a
    match a with
    | ⟨0, _⟩ => simp; omega
    | ⟨1, _⟩ => have := (i 1).isLt; simp at this ⊢; omega

theorem mem_drect (g : Fin 4) (i : S512x16.Idx) :
    i ∈ (Rect.unit (s := S512x16) ![128 * g.val, 0] S128x16.size (inbD g)).set ↔ (i 0).val / 128 = g.val := by
  rw [Rect.mem_set_unit]
  constructor
  · intro h; have h0 := h 0; simp at h0; omega
  · intro h a
    match a with
    | ⟨0, _⟩ => simp; omega
    | ⟨1, _⟩ => have := (i 1).isLt; simp at this ⊢; omega

theorem set_lrow (g : Fin 4) : (lrow idx g).view.set = (Rect.unit (s := S4x128) ![g.val, 0] S1x128.size (inbL g)).set.map idx.view.emb := by
  exact (View.set_reshape _ _).trans (View.set_slice _ _)
theorem set_dchunk (g : Fin 4) : (dchunk rws g).view.set = (Rect.unit (s := S512x16) ![128 * g.val, 0] S128x16.size (inbD g)).set.map rws.view.emb :=
  View.set_slice _ _

theorem lrow_disjoint : ∀ g ∈ (Finset.univ : Finset (Fin 4)), ∀ g' ∈ (Finset.univ : Finset (Fin 4)), g ≠ g' →
    Disjoint (lrow idx g).view.set (lrow idx g').view.set := by
  intro g _ g' _ h
  rw [set_lrow, set_lrow, Finset.disjoint_map, Finset.disjoint_left]
  intro i hi hi'
  rw [mem_lrect] at hi hi'
  exact h (Fin.ext (hi.symm.trans hi'))
theorem dchunk_disjoint : ∀ g ∈ (Finset.univ : Finset (Fin 4)), ∀ g' ∈ (Finset.univ : Finset (Fin 4)), g ≠ g' →
    Disjoint (dchunk rws g).view.set (dchunk rws g').view.set := by
  intro g _ g' _ h
  rw [set_dchunk, set_dchunk, Finset.disjoint_map, Finset.disjoint_left]
  intro i hi hi'
  rw [mem_drect] at hi hi'
  exact h (Fin.ext (hi.symm.trans hi'))
theorem lrow_cover : (Finset.univ : Finset (Fin 4)).biUnion (fun g => (lrow idx g).view.set) = idx.view.set := by
  ext i
  simp only [Finset.mem_biUnion, Finset.mem_univ, true_and]
  constructor
  · rintro ⟨g, hg⟩
    rw [set_lrow] at hg
    obtain ⟨y, -, rfl⟩ := Finset.mem_map.mp hg
    exact View.emb_mem_set _ y
  · intro hi
    obtain ⟨y, -, rfl⟩ := Finset.mem_map.mp hi
    refine ⟨⟨(y 0).val, (y 0).isLt⟩, ?_⟩
    rw [set_lrow]; exact Finset.mem_map_of_mem _ ((mem_lrect _ _).mpr rfl)
theorem dchunk_cover : (Finset.univ : Finset (Fin 4)).biUnion (fun g => (dchunk rws g).view.set) = rws.view.set := by
  ext i
  simp only [Finset.mem_biUnion, Finset.mem_univ, true_and]
  constructor
  · rintro ⟨g, hg⟩
    rw [set_dchunk] at hg
    obtain ⟨y, -, rfl⟩ := Finset.mem_map.mp hg
    exact View.emb_mem_set _ y
  · intro hi
    obtain ⟨y, -, rfl⟩ := Finset.mem_map.mp hi
    have hy : (y 0).val / 128 < 4 := by have : (y 0).val < 512 := (y 0).isLt; omega
    refine ⟨⟨(y 0).val / 128, hy⟩, ?_⟩
    rw [set_dchunk]; exact Finset.mem_map_of_mem _ ((mem_drect _ _).mpr rfl)

end Windows

/-! ## One side's gathers -/

section Side

variable {U : Type} [URA U] {Ix : Type} [DecidableEq Ix]

local notation "𝕄" => MT nD τ sig Ix (Elt F) ℕ U ℕ

variable (d : Dev nD) (L : grid0.Coords)

abbrev cV (L : grid0.Coords) : Fin τ.nSC := (L 0).castLE hcore0
abbrev jV (L : grid0.Coords) : Fin τ.nSub := (L 1).castLE hsub0
/-- The thread of the tile at coordinates `L`. -/
abbrev thr (d : Dev nD) (L : grid0.Coords) : Thread nD τ := V d (cV L) (jV L)

variable (ids : Memref sig .scVector .hbm S16384 .i32) (tab : Memref sig .scVector .hbm S100000x16 .f32)
  (idx : Memref sig .scVector .vmem S4x128 .i32) (rws : Memref sig .scVector .vmem S512x16 .f32)
variable (fi : Buf (Elt F) (ids.view.loc (thr d L))) (ft : Buf (Elt F) (tab.view.loc (thr d L)))
  (fx : Buf (Elt F) (idx.view.loc (thr d L))) (fr : Buf (Elt F) (rws.view.loc (thr d L)))

/-- The list of gather `g` once its ids are fetched. -/
abbrev lst (g : Fin 4) : Buf (Elt F) ((lrow idx g).view.loc (thr d L)) :=
  (lrow idx g).view.write (Elt F) fx ((chunkI L ids g).view.read (Elt F) fi) Finset.univ

/-- Every id names a row. -/
def InRange : Prop := ∀ x, (BitVec.toNat (ids.view.read (Elt F) fi x)) < 100000

theorem lst_read (g : Fin 4) : (lrow idx g).view.read (Elt F) (lst d L ids idx fi fx g) = (chunkI L ids g).view.read (Elt F) fi :=
  View.read_write_univ _ _

theorem chunkI_read (g : Fin 4) (x : S128.Idx) : (chunkI L ids g).view.read (Elt F) fi x
    = ids.view.read (Elt F) fi ((Rect.unit (s := S16384) (k0_off1 L (BitVec.ofNat 32 (128 * g.val))) S128.size (k0_off1_inb L g)).emb x) := rfl

theorem lst_in (h : InRange d L ids fi) (g : Fin 4) :
    ∀ x, (BitVec.toNat ((lrow idx g).view.read (Elt F) (lst d L ids idx fi fx g) x)) < S100000x16.size gathers_S100000x16_S128x16.axis := by
  intro x; rw [lst_read, chunkI_read]; exact h _

/-- What row `j` of gather `g` delivers. -/
abbrev deliv (q : PosShare TreeShare) (h : InRange d L ids fi) (g : Fin 4) (j : Fin (S128x16.size (gathers_S100000x16_S128x16).axis')) : sProp 𝕄 :=
  rowDone (thr d L) (tabAll tab) (dchunk rws g) gathers_S100000x16_S128x16 (lrow idx g) rfl (pieceOf q 4 (by decide) g) fullShare
    ft fr (lst d L ids idx fi fx g) (by decide) (lst_in d L ids idx fi fx h g) j

/-- The tile's rows once gathered. -/
abbrev picked : S512x16.Idx → Elt F .f32 := fun y =>
  pick (tab.view.read (Elt F) ft) (ids.view.read (Elt F) fi) ((Rect.unit (s := S16384x16) (k0_off2 L) S512x16.size (k0_off2_inb L)).emb y)

theorem gathered_eq (h : InRange d L ids fi) (g : Fin 4) (x : S128x16.Idx) :
    gatherPayload gathers_S100000x16_S128x16 ((tabAll tab).view.read (Elt F) ft)
        (rows ((lrow idx g).view.read (Elt F) (lst d L ids idx fi fx g)) rfl (lst_in d L ids idx fi fx h g)) x
      = picked d L ids tab fi ft ((Rect.unit (s := S512x16) ![128 * g.val, 0] S128x16.size (inbD g)).emb x) := by
  have hrow : (gathers_S100000x16_S128x16).axis' = (0 : Fin 2) := rfl
  have e1 : S128.rowMajor.symm ((x 0 : Fin 128).cast rfl) 0 = (x 0 : Fin 128) := by
    apply Fin.ext
    have := Shape.rowMajor_val_one (S128.rowMajor.symm ((x 0 : Fin 128).cast rfl))
    rw [Equiv.apply_symm_apply] at this
    exact this.symm
  unfold gatherPayload picked pick
  show tab.view.read (Elt F) ft ((Rect.unit (s := S100000x16) ![0, 0] S100000x16.size inb_S100000x16_S100000x16_0_0).emb _) = _
  congr 1
  funext a
  apply Fin.ext
  rw [Rect.emb_apply]
  match a with
  | ⟨0, _⟩ =>
    have e2 := Shape.Gathers.idx_axis gathers_S100000x16_S128x16
      (rows ((lrow idx g).view.read (Elt F) (lst d L ids idx fi fx g)) rfl (lst_in d L ids idx fi fx h g)) x
    have e3 : ((gathers_S100000x16_S128x16).idx (rows ((lrow idx g).view.read (Elt F) (lst d L ids idx fi fx g)) rfl (lst_in d L ids idx fi fx h g)) x 0 : ℕ)
        = BitVec.toNat ((lrow idx g).view.read (Elt F) (lst d L ids idx fi fx g) (S128.rowMajor.symm ((x 0 : Fin 128).cast rfl))) := congrArg Fin.val e2
    have e4 : (Rect.unit (s := S16384) (k0_off1 L (BitVec.ofNat 32 (128 * g.val))) S128.size (k0_off1_inb L g)).emb (S128.rowMajor.symm ((x 0 : Fin 128).cast rfl))
        = oneIx (((Rect.unit (s := S16384x16) (k0_off2 L) S512x16.size (k0_off2_inb L)).emb
            ((Rect.unit (s := S512x16) ![128 * g.val, 0] S128x16.size (inbD g)).emb x)) 0) := by
      funext b
      match b with
      | ⟨0, _⟩ =>
        apply Fin.ext
        show _ = (((Rect.unit (s := S16384x16) (k0_off2 L) S512x16.size (k0_off2_inb L)).emb
            ((Rect.unit (s := S512x16) ![128 * g.val, 0] S128x16.size (inbD g)).emb x)) 0).val
        rw [Rect.emb_apply, Rect.emb_apply, Rect.emb_apply]
        have e5 : (S128.rowMajor.symm ((x 0 : Fin 128).cast rfl) ⟨0, by decide⟩).val = (x 0).val := congrArg Fin.val e1
        simp only [Rect.off_unit, Rect.stride_unit, e5, k0_off1_eq, k0_off2_eq]
        simp
        omega
    have e6 : BitVec.toNat (ids.view.read (Elt F) fi (oneIx (((Rect.unit (s := S16384x16) (k0_off2 L) S512x16.size (k0_off2_inb L)).emb
            ((Rect.unit (s := S512x16) ![128 * g.val, 0] S128x16.size (inbD g)).emb x)) 0))) < 100000 := h _
    show (0 + 1 * _ : ℕ) = BitVec.toNat (ids.view.read (Elt F) fi _) % 100000
    rw [Nat.mod_eq_of_lt e6, Nat.zero_add, Nat.one_mul]
    refine e3.trans ?_
    rw [lst_read, chunkI_read, e4]
  | ⟨1, _⟩ =>
    have e2 := Shape.Gathers.idx_of_ne gathers_S100000x16_S128x16
      (rows ((lrow idx g).view.read (Elt F) (lst d L ids idx fi fx g)) rfl (lst_in d L ids idx fi fx h g)) x 1 (by decide)
    show (0 + 1 * _ : ℕ) = (((Rect.unit (s := S16384x16) (k0_off2 L) S512x16.size (k0_off2_inb L)).emb
            ((Rect.unit (s := S512x16) ![128 * g.val, 0] S128x16.size (inbD g)).emb x)) 1).val
    rw [Rect.emb_apply, Rect.emb_apply]
    simp only [Rect.off_unit, Rect.stride_unit, k0_off2_eq]
    rw [Nat.zero_add, Nat.one_mul]
    refine e2.trans ?_
    simp

theorem mono_each {I : Type} [Fintype I] {Φ Ψ : I → sProp 𝕄} (h : ∀ i, Φ i ⊢ Ψ i) : bigSep Finset.univ Φ ⊢ bigSep Finset.univ Ψ :=
  bigSep_mono fun i _ => h i

/-- All rows of all four gathers delivered: the rows' buffer at the picked rows, the table's share whole again, the lists back. -/
theorem side_join (q : PosShare TreeShare) (h : InRange d L ids fi) :
    (bigSep Finset.univ (fam (deliv (U := U) (Ix := Ix) d L ids tab idx rws fi ft fx fr q h)) : sProp 𝕄)
      ⊢ iprop((∃ g : Buf (Elt F) (rws.view.loc (thr d L)), ⌜rws.view.read (Elt F) g = picked d L ids tab fi ft⌝
            ∗ rws.view.loc (thr d L) ↦[rws.view.set]{fullShare} g)
          ∗ (tab.view.loc (thr d L) ↦[(tabAll tab).view.set]{q} ft)
          ∗ ∃ f : Buf (Elt F) (idx.view.loc (thr d L)), idx.view.loc (thr d L) ↦[idx.view.set]{fullShare} f) := by
  rw [bigSep_grid]
  simp only [fam_at]
  iintro H0
  ihave H := (mono_each fun g => gathered_join (thr d L) (tabAll tab) (dchunk rws g) gathers_S100000x16_S128x16 (lrow idx g) rfl
    (pieceOf q 4 _ g) fullShare ft fr (lst d L ids idx fi fx g) _ (lst_in d L ids idx fi fx h g)) $$ H0
  ihave H1 := Transfers.bigSep_sep_out _ _ _ $$ H
  icases H1 with ⟨Hr, H2⟩
  ihave H3 := Transfers.bigSep_sep_out _ _ _ $$ H2
  icases H3 with ⟨Ht, Hl⟩
  isplitl [Hr]
  · ihave Hr' := (pointsTo_biUnion_join (ℓ := rws.view.loc (thr d L)) (q := fullShare) (Val := Elt F) Finset.univ (fun g => (dchunk rws g).view.set) _ fr
      (dchunk_disjoint rws)) $$ Hr
    icases Hr' with ⟨%g, %hg, Hg⟩
    rw [dchunk_cover]
    iexists g
    isplitr
    · ipureintro
      funext y
      obtain ⟨k, x, rfl⟩ : ∃ (k : Fin 4) (x : S128x16.Idx), (Rect.unit (s := S512x16) ![128 * k.val, 0] S128x16.size (inbD k)).emb x = y := by
        have hy : (y 0).val / 128 < 4 := by have : (y 0).val < 512 := (y 0).isLt; omega
        have hm := (mem_drect ⟨(y 0).val / 128, hy⟩ y).mpr rfl
        rw [← Rect.map_emb_univ] at hm
        obtain ⟨x, -, hx⟩ := Finset.mem_map.mp hm
        exact ⟨_, x, hx⟩
      have hv := hg k (Finset.mem_univ _) ((dchunk rws k).view.emb x) (View.emb_mem_set _ x)
      refine Eq.trans ?_ (gathered_eq d L ids tab idx fi ft fx h k x)
      refine Eq.trans ?_ (congrFun (View.read_write_univ (v := (dchunk rws k).view) fr _) x)
      rw [View.read_apply, View.read_apply]
      exact congrArg _ hv
    · iexact Hg
  isplitl [Ht]
  · iapply (Entails.of_eq (pointsTo_piecesOf ((tabAll tab).view.set) ft (o := 4) _ q).symm) $$ Ht
  · ihave Hl' := (pointsTo_biUnion_join (ℓ := idx.view.loc (thr d L)) (q := fullShare) (Val := Elt F) Finset.univ (fun g => (lrow idx g).view.set) _ fx
      (lrow_disjoint idx)) $$ Hl
    icases Hl' with ⟨%g, -, Hg⟩
    rw [lrow_cover]
    iexists g; iexact Hg

end Side

end Cert.Proof.RunKernelIdeal
-- ==== Proof.TileKernelIdeal.lean ====
/-
  The embedding kernel on one tile: eight copies fetch the tile's ids, eight gathers (four per table, all in flight
  together) fetch the rows the ids name, and two copies write the 512 rows of each side out. `tile_body` carries the
  value: the tile's rows of each output are the picked rows of its table.
-/
module

public import proofs.«01_k».proof.Proof.SideKernelIdeal

@[expose] public section

noncomputable section

namespace Cert.Proof.RunKernelIdeal

open Cert.KernelIdeal Cert.KernelIdeal.Gen

open Idealize.ShloMosaic
open Idealize.ShloMosaic.SparseCore
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev iaLoc (d : Dev nD) : Loc nD τ sig := (SparseCore.T d).loc main_v2
abbrev ibLoc (d : Dev nD) : Loc nD τ sig := (SparseCore.T d).loc main_v5
abbrev taLoc (d : Dev nD) : Loc nD τ sig := (SparseCore.T d).loc main_arg1
abbrev tbLoc (d : Dev nD) : Loc nD τ sig := (SparseCore.T d).loc main_arg2
abbrev oaLoc (d : Dev nD) : Loc nD τ sig := (SparseCore.T d).loc main_v7_0
abbrev obLoc (d : Dev nD) : Loc nD τ sig := (SparseCore.T d).loc main_v7_1

local notation "iaV" => (Memref.whole Cert.KernelIdeal.main_v2_scv : Memref Cert.KernelIdeal.sig Kind.scVector Space.hbm Cert.KernelIdeal.S16384 EltTy.i32)
local notation "ibV" => (Memref.whole Cert.KernelIdeal.main_v5_scv : Memref Cert.KernelIdeal.sig Kind.scVector Space.hbm Cert.KernelIdeal.S16384 EltTy.i32)
local notation "taV" => (Memref.whole Cert.KernelIdeal.main_arg1_scv : Memref Cert.KernelIdeal.sig Kind.scVector Space.hbm Cert.KernelIdeal.S100000x16 EltTy.f32)
local notation "tbV" => (Memref.whole Cert.KernelIdeal.main_arg2_scv : Memref Cert.KernelIdeal.sig Kind.scVector Space.hbm Cert.KernelIdeal.S100000x16 EltTy.f32)
local notation "oaV" => (Memref.whole Cert.KernelIdeal.main_v7_0_scv : Memref Cert.KernelIdeal.sig Kind.scVector Space.hbm Cert.KernelIdeal.S16384x16 EltTy.f32)
local notation "obV" => (Memref.whole Cert.KernelIdeal.main_v7_1_scv : Memref Cert.KernelIdeal.sig Kind.scVector Space.hbm Cert.KernelIdeal.S16384x16 EltTy.f32)
local notation "xaV" => (Memref.whole Cert.KernelIdeal.cc0_scratch0 : Memref Cert.KernelIdeal.sig Kind.scVector Space.vmem Cert.KernelIdeal.S4x128 EltTy.i32)
local notation "xbV" => (Memref.whole Cert.KernelIdeal.cc0_scratch1 : Memref Cert.KernelIdeal.sig Kind.scVector Space.vmem Cert.KernelIdeal.S4x128 EltTy.i32)
local notation "raV" => (Memref.whole Cert.KernelIdeal.cc0_scratch2 : Memref Cert.KernelIdeal.sig Kind.scVector Space.vmem Cert.KernelIdeal.S512x16 EltTy.f32)
local notation "rbV" => (Memref.whole Cert.KernelIdeal.cc0_scratch3 : Memref Cert.KernelIdeal.sig Kind.scVector Space.vmem Cert.KernelIdeal.S512x16 EltTy.f32)

/-- The share of the read-only arrays that tile `i` of SparseCore `c` holds. -/
abbrev sh (c : Fin 2) (i : Fin 16) : PosShare TreeShare := pieceOf (pieceOf fullShare 2 (by decide) c) 16 (by decide) i

variable (X : (ℓ : Loc nD τ sig) → Buf (Elt F) ℓ)

/-- What each output holds once the call is done. -/
abbrev resA (d : Dev nD) : Buf (Elt F) (oaLoc d) := pick (F := F) (X (taLoc d)) (X (iaLoc d))
abbrev resB (d : Dev nD) : Buf (Elt F) (obLoc d) := pick (F := F) (X (tbLoc d)) (X (ibLoc d))

/-- The tile's rows of the outputs. -/
abbrev oaSet (d : Dev nD) (L : grid0.Coords) : Finset (Idx (oaLoc d)) := (oblk L oaV).view.set
abbrev obSet (d : Dev nD) (L : grid0.Coords) : Finset (Idx (obLoc d)) := (oblk L obV).view.set

/-- What a tile is handed, -/
abbrev goRes (d : Dev nD) (L : grid0.Coords) : sProp 𝕄 :=
  iprop((iaLoc d ↦{sh (L 0) (L 1)} X (iaLoc d)) ∗ (ibLoc d ↦{sh (L 0) (L 1)} X (ibLoc d))
    ∗ (taLoc d ↦{sh (L 0) (L 1)} X (taLoc d)) ∗ (tbLoc d ↦{sh (L 0) (L 1)} X (tbLoc d))
    ∗ (oaLoc d ↦[oaSet d L]{fullShare} X (oaLoc d)) ∗ (obLoc d ↦[obSet d L]{fullShare} X (obLoc d)))
/-- and what it hands back. -/
abbrev tdRes (d : Dev nD) (L : grid0.Coords) : sProp 𝕄 :=
  iprop((iaLoc d ↦{sh (L 0) (L 1)} X (iaLoc d)) ∗ (ibLoc d ↦{sh (L 0) (L 1)} X (ibLoc d))
    ∗ (taLoc d ↦{sh (L 0) (L 1)} X (taLoc d)) ∗ (tbLoc d ↦{sh (L 0) (L 1)} X (tbLoc d))
    ∗ (oaLoc d ↦[oaSet d L]{fullShare} resA X d) ∗ (obLoc d ↦[obSet d L]{fullShare} resB X d))

/-- What the proof asks of the ids at the call: each names a row. -/
def PreOK : Prop := ∀ (d : Dev nD) (j : S16384.Idx), BitVec.toNat (X (iaLoc d) j) < 100000 ∧ BitVec.toNat (X (ibLoc d) j) < 100000

section Own

variable (d : Dev nD) (L : grid0.Coords)

theorem own_semAt_inj : Function.Injective (fun k : Fin 12 => ((thr d L, SemLoc.dma (k.castLE (by decide) : Fin 30)) : GSem nD τ sig)) := by
  intro a b h
  have h1 := congrArg (fun g : GSem nD τ sig => g.2) h
  exact Fin.castLE_injective _ (SemLoc.dma.inj h1)

/-- The tile's twelve transfer semaphores are among its own. -/
theorem ownSems0_V : (ownSems0 (thr d L) : sProp 𝕄)
      = iprop((semVal (thr d L, SemLoc.dma cc0_scratch4.sem) 0 ∗ semVal (thr d L, SemLoc.dma cc0_scratch5.sem) 0
          ∗ semVal (thr d L, SemLoc.dma cc0_scoped0.sem) 0 ∗ semVal (thr d L, SemLoc.dma cc0_scoped1.sem) 0
          ∗ semVal (thr d L, SemLoc.dma cc0_scoped2.sem) 0 ∗ semVal (thr d L, SemLoc.dma cc0_scoped3.sem) 0
          ∗ semVal (thr d L, SemLoc.dma cc0_scoped4.sem) 0 ∗ semVal (thr d L, SemLoc.dma cc0_scoped5.sem) 0
          ∗ semVal (thr d L, SemLoc.dma cc0_scoped6.sem) 0 ∗ semVal (thr d L, SemLoc.dma cc0_scoped7.sem) 0
          ∗ semVal (thr d L, SemLoc.dma cc0_scoped8.sem) 0 ∗ semVal (thr d L, SemLoc.dma cc0_scoped9.sem) 0)
          ∗ bigSep (ownCells (thr d L) \ Finset.univ.map ⟨_, own_semAt_inj d L⟩) fun g => semVal g 0) := by
  unfold SparseCore.Cfg.ownSems0
  have hsub : Finset.univ.map ⟨_, own_semAt_inj d L⟩ ⊆ ownCells (thr d L) := by
    intro g hg
    obtain ⟨k, -, rfl⟩ := Finset.mem_map.mp hg
    refine mem_ownCells.mpr ⟨rfl, ?_⟩
    exact (show ∀ k : Fin 12, (SemLoc.dma (k.castLE (by decide) : Fin 30) : SemLoc sig).isScoped .scVector = true by decide) k
  rw [SparseCore.bigSep_sdiff_split' hsub, BI.bigSep_map]
  congr 1
  exact bigSep_univ_eq_bigSepL [0, 1, 2, 3, 4, 5, 6, 7, 8, 9, 10, 11] (by decide) (by decide) _

/-- The four scratch buffers. -/
def bufAt : Fin 4 → Ref sig .scVector
  | 0 => cc0_scratch0 | 1 => cc0_scratch1 | 2 => cc0_scratch2 | 3 => cc0_scratch3

theorem bufAt_inj : Function.Injective (fun k : Fin 4 => (Proc.scVector (cV L) (jV L) : Proc τ).devRef (bufAt k)) :=
  fun _ _ h => (show Function.Injective bufAt by decide) (Proc.devRef_injective _ h)

theorem ownBufs_V : (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f))
          ∗ bigSep (ownRefs (τ := τ) (.scVector (cV L) (jV L)) \ Finset.univ.map ⟨_, bufAt_inj L⟩)
              fun b => iprop(∃ f, ((d, b) : Loc nD τ sig) ↦{fullShare} f)) := by
  unfold SparseCore.Cfg.ownBufs
  have hsub : Finset.univ.map ⟨_, bufAt_inj L⟩ ⊆ ownRefs (τ := τ) (.scVector (cV L) (jV L)) := by
    intro b hb
    obtain ⟨k, -, rfl⟩ := Finset.mem_map.mp hb
    refine SparseCore.Cfg.mem_ownRefs_of_owner ?_
    match k with
    | 0 => rfl
    | 1 => rfl
    | 2 => rfl
    | 3 => rfl
  rw [SparseCore.bigSep_sdiff_split' hsub, BI.bigSep_map]
  congr 1
  exact bigSep_univ_eq_bigSepL ([0, 1, 2, 3] : List (Fin 4)) (by decide) (by decide) _

end Own

/-! ## The lists' rows and the gathered chunks, named as the program names them -/

section Pieces

variable (d : Dev nD) (L : grid0.Coords)
variable (idx : Memref sig .scVector .vmem S4x128 .i32) (rws : Memref sig .scVector .vmem S512x16 .f32)

abbrev lrow0 : Memref sig .scVector .vmem S128 .i32 :=
  (idx.slice (Rect.unit (s := S4x128) ![0, 0] S1x128.size inb_S4x128_S1x128_0_0) (fun _ => rfl)).squeeze S128 squeezes_S1x128_S128
abbrev lrow1 : Memref sig .scVector .vmem S128 .i32 :=
  (idx.slice (Rect.unit (s := S4x128) ![1, 0] S1x128.size inb_S4x128_S1x128_1_0) (fun _ => rfl)).squeeze S128 squeezes_S1x128_S128
abbrev lrow2 : Memref sig .scVector .vmem S128 .i32 :=
  (idx.slice (Rect.unit (s := S4x128) ![2, 0] S1x128.size inb_S4x128_S1x128_2_0) (fun _ => rfl)).squeeze S128 squeezes_S1x128_S128
abbrev lrow3 : Memref sig .scVector .vmem S128 .i32 :=
  (idx.slice (Rect.unit (s := S4x128) ![3, 0] S1x128.size inb_S4x128_S1x128_3_0) (fun _ => rfl)).squeeze S128 squeezes_S1x128_S128

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem idx_rows (f : Buf (Elt F) (idx.view.loc (thr d L))) :
    (idx.view.loc (thr d L) ↦[idx.view.set]{fullShare} f : sProp 𝕄)
      = iprop(((lrow0 idx).view.loc (thr d L) ↦[(lrow0 idx).view.set]{fullShare} f) ∗ ((lrow1 idx).view.loc (thr d L) ↦[(lrow1 idx).view.set]{fullShare} f)
          ∗ ((lrow2 idx).view.loc (thr d L) ↦[(lrow2 idx).view.set]{fullShare} f) ∗ ((lrow3 idx).view.loc (thr d L) ↦[(lrow3 idx).view.set]{fullShare} f)) := by
  rw [← lrow_cover]
  exact (pointsTo_biUnion (ℓ := idx.view.loc (thr d L)) Finset.univ (fun g => (lrow idx g).view.set) (lrow_disjoint idx)).trans (bigSep_four _)

theorem rws_chunks (f : Buf (Elt F) (rws.view.loc (thr d L))) :
    (rws.view.loc (thr d L) ↦[rws.view.set]{fullShare} f : sProp 𝕄)
      = iprop(((dchunk rws 0).view.loc (thr d L) ↦[(dchunk rws 0).view.set]{fullShare} f) ∗ ((dchunk rws 1).view.loc (thr d L) ↦[(dchunk rws 1).view.set]{fullShare} f)
          ∗ ((dchunk rws 2).view.loc (thr d L) ↦[(dchunk rws 2).view.set]{fullShare} f) ∗ ((dchunk rws 3).view.loc (thr d L) ↦[(dchunk rws 3).view.set]{fullShare} f)) := by
  rw [← dchunk_cover]
  exact (pointsTo_biUnion (ℓ := rws.view.loc (thr d L)) Finset.univ (fun g => (dchunk rws g).view.set) (dchunk_disjoint rws)).trans (bigSep_four _)

/-- A window written once, whole. -/
theorem pts_writes_whole {sp : Space} {s : Shape} {e : EltTy} (v : View sig .scVector sp s e) (f : v.ty.Contents (Elt F)) (p : s.Idx → Elt F e) :
    (v.loc (thr d L) ↦[v.set]{fullShare} v.writes (Elt F) f [⟨Rect.whole s, p⟩] : sProp 𝕄)
      = (v.loc (thr d L) ↦[v.set]{fullShare} v.write (Elt F) f p Finset.univ) := by
  refine pointsTo_congr fun i hi => ?_
  obtain ⟨y, -, rfl⟩ := Finset.mem_map.mp hi
  have hy : (Rect.whole s).emb y = y := by funext a; apply Fin.ext; rw [Rect.emb_apply]; simp [Rect.whole]
  have h := View.read_writes_cons_emb (Val := Elt F) v f (Rect.whole s) p [] y
  rw [hy] at h
  have h2 := congrFun (View.read_write_univ (Val := Elt F) (v := v) f p) y
  rw [View.read_apply] at h h2
  exact (cast_inj _).mp (h.trans h2.symm)

/-- A list's row, once its ids are copied in. -/
theorem row_fetched (ids : Memref sig .scVector .hbm S16384 .i32) (fi : Buf (Elt F) (ids.view.loc (thr d L))) (fx : Buf (Elt F) (idx.view.loc (thr d L))) (g : Fin 4) :
    ((lrow idx g).view.loc (thr d L) ↦[(lrow idx g).view.set]{fullShare}
        (lrow idx g).view.writes (Elt F) fx [⟨Rect.whole S128, (chunkI L ids g).view.read (Elt F) fi⟩] : sProp 𝕄)
      ⊢ ((lrow idx g).view.loc (thr d L) ↦[(lrow idx g).view.set]{fullShare} lst d L ids idx fi fx g) :=
  Entails.of_eq (pts_writes_whole (F := F) d L (lrow idx g).view fx ((chunkI L ids g).view.read (Elt F) fi))

/-- A tile's rows of an output written once, with what another array reads there, hold that array. -/
theorem out_rows (out : Memref sig .scVector .hbm S16384x16 .f32) (fo r : Buf (Elt F) (out.view.loc (thr d L))) (p : S512x16.Idx → Elt F .f32)
    (h : ∀ y, (oblk L out).view.read (Elt F) r y = p y) :
    ((oblk L out).view.loc (thr d L) ↦[(oblk L out).view.set]{fullShare} (oblk L out).view.writes (Elt F) fo [⟨Rect.whole S512x16, p⟩] : sProp 𝕄)
      = ((oblk L out).view.loc (thr d L) ↦[(oblk L out).view.set]{fullShare} r) := by
  refine (pts_writes_whole d L (oblk L out).view fo p).trans (pointsTo_congr fun i hi => ?_)
  obtain ⟨y, -, rfl⟩ := Finset.mem_map.mp hi
  have h1 := h y
  have h2 := congrFun (View.read_write_univ (Val := Elt F) (v := (oblk L out).view) fo p) y
  rw [View.read_apply] at h1 h2
  exact (cast_inj _).mp (h2.trans h1.symm)

end Pieces

variable [FloatOps F]

/-! ## One gather's issue, over a side's batch -/

section Issue

variable (d : Dev nD) (L : grid0.Coords)
variable (ids : Memref sig .scVector .hbm S16384 .i32) (tab : Memref sig .scVector .hbm S100000x16 .f32)
  (idx : Memref sig .scVector .vmem S4x128 .i32) (rws : Memref sig .scVector .vmem S512x16 .f32)
variable (fi : Buf (Elt F) (ids.view.loc (thr d L))) (ft : Buf (Elt F) (tab.view.loc (thr d L)))
  (fx : Buf (Elt F) (idx.view.loc (thr d L))) (fr : Buf (Elt F) (rws.view.loc (thr d L)))

/-- The rows of one gather. -/
abbrev oo : ℕ := S128x16.size gathers_S100000x16_S128x16.axis'

/-- A side's deliveries, in the order of the gathers. -/
abbrev sideD (q : PosShare TreeShare) (h : InRange d L ids fi) : Fin (4 * oo) → sProp 𝕄 :=
  fam (deliv (U := UU) (Ix := HIx 1) d L ids tab idx rws fi ft fx fr q h)

theorem side_issue {sem : DmaSem sig} {hp : (thr d L).2.kind = .scVector} {hsrc : (tabAll tab).view.WordExact} {he : EltTy.f32.bits = 32}
    {hsp : Space.hbm = .hbm ∨ Space.hbm = .shared} {hr : S100000x16.StreamRows 0}
    {k : PUnit → Prog (TpuEff nD τ sig (Elt F) Λ₀ (thr d L).2) PUnit} {Q : PUnit → sProp 𝕄} (q : PosShare TreeShare) (h : InRange d L ids fi)
    {γ : Fin (4 * oo) → ℕ} {γ₀ κ : ℕ} (g : Fin 4)
    (hN : ∀ j, ((dchunk rws g).slice (S128x16.rowRect gathers_S100000x16_S128x16.axis' j) (S128x16.stride_rowRect gathers_S100000x16_S128x16.axis' j)).view.dmaCredit = 512) :
    iprop(inv κ (Transfers.batchBody countersEmb (thr d L, SemLoc.dma sem) 512 (sideD d L ids tab idx rws fi ft fx fr q h) γ γ₀)
        ∗ (bigSep Finset.univ fun j : Fin oo => count countersEmb (γ (finProdFinEquiv (g, j))) 0)
        ∗ ((lrow idx g).view.loc (thr d L) ↦[(lrow idx g).view.set]{fullShare} lst d L ids idx fi fx g)
        ∗ ((dchunk rws g).view.loc (thr d L) ↦[(dchunk rws g).view.set]{fullShare} fr)
        ∗ (tab.view.loc (thr d L) ↦[(tabAll tab).view.set]{pieceOf q 4 (by decide) g} ft))
      ⊢ iprop((cred (tallyAt (thr d L, SemLoc.dma sem) (default : HIx 1) (oo * 512)) -∗ wp frame (wpE (defs₀ (F := F)) 𝒱₀ (thr d L) none) Set.univ (k ⟨⟩) Q)
          -∗ wp frame (wpE (defs₀ (F := F)) 𝒱₀ (thr d L) none) Set.univ
              (enqueueIndirectGather hp (tabAll tab) (dchunk rws g) gathers_S100000x16_S128x16 (lrow idx g) rfl sem hsrc he hsp hr >>= k) Q) :=
  wp_gatherIssue countersEmb (thr d L) (tabAll tab) (dchunk rws g) gathers_S100000x16_S128x16 (lrow idx g) rfl (pieceOf q 4 (by decide) g) fullShare
    ft fr (lst d L ids idx fi fx g) (by decide) (lst_in d L ids idx fi fx h g) 𝒱₀ none (default : HIx 1) hN rfl
    (fun j : Fin oo => finProdFinEquiv (g, j))
    fun j => Entails.of_eq (fam_at (deliv (U := UU) (Ix := HIx 1) d L ids tab idx rws fi ft fx fr q h) g j).symm

/-- What opening a side's batch takes and leaves: the table's share in four, the chunks, the batch's parts. -/
theorem side_open {sem : DmaSem sig} (q : PosShare TreeShare) (h : InRange d L ids fi) :
    (semVal (thr d L, SemLoc.dma sem) 0 : sProp 𝕄) ⊢ |={Set.univ}=> iprop(∃ (γ : Fin (4 * oo) → ℕ) (γ₀ κ : ℕ),
        inv κ (Transfers.batchBody countersEmb (thr d L, SemLoc.dma sem) 512 (sideD d L ids tab idx rws fi ft fx fr q h) γ γ₀)
          ∗ count countersEmb γ₀ 0
          ∗ (bigSep Finset.univ fun j : Fin oo => count countersEmb (γ (finProdFinEquiv ((0 : Fin 4), j))) 0)
          ∗ (bigSep Finset.univ fun j : Fin oo => count countersEmb (γ (finProdFinEquiv ((1 : Fin 4), j))) 0)
          ∗ (bigSep Finset.univ fun j : Fin oo => count countersEmb (γ (finProdFinEquiv ((2 : Fin 4), j))) 0)
          ∗ (bigSep Finset.univ fun j : Fin oo => count countersEmb (γ (finProdFinEquiv ((3 : Fin 4), j))) 0)) := by
  haveI : ∀ g j, Storable (upEmb : UEmb _ 𝕄) (deliv (U := UU) (Ix := HIx 1) d L ids tab idx rws fi ft fx fr q h g j) := fun g j => rowDone_storable ..
  iintro Hs
  imod (gathers_alloc countersEmb (g := (thr d L, SemLoc.dma sem)) 512 (deliv (U := UU) (Ix := HIx 1) d L ids tab idx rws fi ft fx fr q h) (E := Set.univ)) $$ Hs with ⟨%γ, %γ₀, %κ, Hinv, Hc, Hcs⟩
  imodintro
  iexists γ; iexists γ₀; iexists κ
  isplitl [Hinv]; · iexact Hinv
  isplitl [Hc]; · iexact Hc
  ihave Hcs' := (Entails.of_eq (bigSep_four (F := F) fun g : Fin 4 => bigSep Finset.univ fun j : Fin oo => count countersEmb (γ (finProdFinEquiv (g, j))) 0)) $$ Hcs
  iexact Hcs'

/-- The table's share in four. -/
theorem tab_four (q : PosShare TreeShare) :
    (tab.view.loc (thr d L) ↦[(tabAll tab).view.set]{q} ft : sProp 𝕄)
      = iprop((tab.view.loc (thr d L) ↦[(tabAll tab).view.set]{pieceOf q 4 (by decide) 0} ft) ∗ (tab.view.loc (thr d L) ↦[(tabAll tab).view.set]{pieceOf q 4 (by decide) 1} ft)
          ∗ (tab.view.loc (thr d L) ↦[(tabAll tab).view.set]{pieceOf q 4 (by decide) 2} ft) ∗ (tab.view.loc (thr d L) ↦[(tabAll tab).view.set]{pieceOf q 4 (by decide) 3} ft)) := by
  rw [pointsTo_piecesOf _ _ (o := 4) (by decide) q]
  exact bigSep_four _

theorem cred_four {sem : DmaSem sig} :
    iprop((cred (tallyAt (thr d L, SemLoc.dma sem) (default : HIx 1) (oo * 512)) : sProp 𝕄) ∗ cred (tallyAt (thr d L, SemLoc.dma sem) (default : HIx 1) (oo * 512))
        ∗ cred (tallyAt (thr d L, SemLoc.dma sem) (default : HIx 1) (oo * 512)) ∗ cred (tallyAt (thr d L, SemLoc.dma sem) (default : HIx 1) (oo * 512)))
      ⊢ (cred (tallyAt (thr d L, SemLoc.dma sem) (default : HIx 1) (4 * oo * 512)) : sProp 𝕄) := by
  have h : 4 * oo * 512 = oo * 512 + (oo * 512 + (oo * 512 + oo * 512)) := by ring
  rw [h, ← tallyAt_add, ← tallyAt_add, ← tallyAt_add]
  iintro ⟨H0, H1, H2, H3⟩
  icombine H2 H3 as H23
  icombine H1 H23 as H123
  icombine H0 H123 as H
  iexact H

/-- Once all four gathers are issued: the batch, nothing taken off it. -/
theorem side_batch {sem : DmaSem sig} (q : PosShare TreeShare) (h : InRange d L ids fi) {γ : Fin (4 * oo) → ℕ} {γ₀ κ : ℕ} :
    iprop(inv κ (Transfers.batchBody countersEmb (thr d L, SemLoc.dma sem) 512 (sideD d L ids tab idx rws fi ft fx fr q h) γ γ₀)
        ∗ count countersEmb γ₀ 0
        ∗ (cred (tallyAt (thr d L, SemLoc.dma sem) (default : HIx 1) (oo * 512)) : sProp 𝕄) ∗ cred (tallyAt (thr d L, SemLoc.dma sem) (default : HIx 1) (oo * 512))
        ∗ cred (tallyAt (thr d L, SemLoc.dma sem) (default : HIx 1) (oo * 512)) ∗ cred (tallyAt (thr d L, SemLoc.dma sem) (default : HIx 1) (oo * 512)))
      ⊢ Transfers.Batch countersEmb (thr d L) (SemLoc.dma sem) (default : HIx 1) 512 (sideD d L ids tab idx rws fi ft fx fr q h) (4 * oo) 0 := by
  iintro ⟨Hinv, Hc, Hcr⟩
  iapply (gathers_batch countersEmb (thr d L) (SemLoc.dma sem) (default : HIx 1) 512 (deliv (U := UU) (Ix := HIx 1) d L ids tab idx rws fi ft fx fr q h) γ γ₀ κ)
  isplitl [Hinv]; · iexact Hinv
  isplitl [Hc]; · iexact Hc
  iapply (cred_four (F := F) d L); iexact Hcr

/-- A gather's wait that leaves others of the side to wait for: `u` units are off the batch before it. -/
theorem side_wait {sem : DmaSem sig} {hsrc : (tabAll tab).view.WordExact} {k : PUnit → Prog (TpuEff nD τ sig (Elt F) Λ₀ (thr d L).2) PUnit}
    {Q : PUnit → sProp 𝕄} (Dv : Fin (4 * oo) → sProp 𝕄) (g : Fin 4) {hdst : (dchunk rws g).view.WordExact} (u : ℕ)
    (hJ : (dchunk rws g).view.dmaCredit = 128 * 512) (hu : u + 128 * 512 ≤ 512 * (4 * oo))
    {O : CellTallies nD τ sig (HIx 1)} {W : Waits sig (HIx 1)} :
    iprop(Transfers.Batch countersEmb (thr d L) (SemLoc.dma sem) (default : HIx 1) 512 Dv (4 * oo) u ∗ owes (thr d L) O W
        ∗ Transfers.MayWaits (thr d L) (default : HIx 1) O)
      ⊢ iprop((iprop(Transfers.Batch countersEmb (thr d L) (SemLoc.dma sem) (default : HIx 1) 512 Dv (4 * oo) (u + 128 * 512)
            ∗ owes (thr d L) O (insert (SemLoc.dma sem, default) W)) -∗ wp frame (wpE (defs₀ (F := F)) 𝒱₀ (thr d L) none) Set.univ (k ⟨⟩) Q)
          -∗ wp frame (wpE (defs₀ (F := F)) 𝒱₀ (thr d L) none) Set.univ (waitIndirectGather sem (tabAll tab) (dchunk rws g) hsrc hdst >>= k) Q) := by
  iintro ⟨HB, HO, #Hmw⟩
  iapply (Transfers.wp_waitBatchMulO countersEmb 𝒱₀ (thr d L) none (default : HIx 1) 128 (N := 512) (j := 4 * oo) (u := u) hJ hu)
  isplitl [HB]; · iexact HB
  isplitl [HO]; · iexact HO
  iapply (Transfers.MayWaits.elim (SemLoc.dma sem)) $$ Hmw

/-- The last wait of a side: every delivery, and the semaphore back at zero. -/
theorem side_wait_last {sem : DmaSem sig} {hsrc : (tabAll tab).view.WordExact} {k : PUnit → Prog (TpuEff nD τ sig (Elt F) Λ₀ (thr d L).2) PUnit}
    {Q : PUnit → sProp 𝕄} (Dv : Fin (4 * oo) → sProp 𝕄) (g : Fin 4) {hdst : (dchunk rws g).view.WordExact} (u : ℕ)
    (hJ : (dchunk rws g).view.dmaCredit = 128 * 512) (hu : u + 128 * 512 = 512 * (4 * oo))
    {O : CellTallies nD τ sig (HIx 1)} {W : Waits sig (HIx 1)} :
    iprop(Transfers.Batch countersEmb (thr d L) (SemLoc.dma sem) (default : HIx 1) 512 Dv (4 * oo) u ∗ owes (thr d L) O W
        ∗ Transfers.MayWaits (thr d L) (default : HIx 1) O)
      ⊢ iprop((iprop(bigSep Finset.univ Dv ∗ semVal (thr d L, SemLoc.dma sem) 0
            ∗ owes (thr d L) O (insert (SemLoc.dma sem, default) W)) -∗ wp frame (wpE (defs₀ (F := F)) 𝒱₀ (thr d L) none) Set.univ (k ⟨⟩) Q)
          -∗ wp frame (wpE (defs₀ (F := F)) 𝒱₀ (thr d L) none) Set.univ (waitIndirectGather sem (tabAll tab) (dchunk rws g) hsrc hdst >>= k) Q) := by
  iintro ⟨HB, HO, #Hmw⟩
  iapply (Transfers.wp_waitBatchAllO countersEmb 𝒱₀ (thr d L) none (default : HIx 1) (n := 4 * oo) (N := 512) (J := 128 * 512) (u := u) hJ (by decide) hu)
  isplitl [HB]; · iexact HB
  isplitl [HO]; · iexact HO
  iapply (Transfers.MayWaits.elim (SemLoc.dma sem)) $$ Hmw

end Issue

section Body

variable (d : Dev nD) (L : grid0.Coords)

set_option maxHeartbeats 4000000 in
theorem tile_body (hF : (K (F := F)).Facts) (hpre : PreOK X) (O : CellTallies nD τ sig (HIx 1)) (W : Waits sig (HIx 1)) (hO : ∀ g, O g none = 0) :
    iprop(levAts (K (F := F)).L (K (F := F)).lev ∗ emp ∗ goRes X d L
        ∗ scopedBufs (thr d L) ∗ scopedSems0 (thr d L) ∗ owes (thr d L) O W)
      ⊢ wp frame (wpE (defs₀ (F := F)) 𝒱₀ (thr d L) none) Set.univ
          (cc0_gather2 L iaV (Memref.isWhole_whole _) ibV (Memref.isWhole_whole _) taV (Memref.isWhole_whole _) tbV (Memref.isWhole_whole _)
            oaV (Memref.isWhole_whole _) obV (Memref.isWhole_whole _) xaV (Memref.isWhole_whole _) xbV (Memref.isWhole_whole _)
            raV (Memref.isWhole_whole _) rbV (Memref.isWhole_whole _) cc0_scratch4 cc0_scratch5
            cc0_scoped0 cc0_scoped1 cc0_scoped2 cc0_scoped3 cc0_scoped4 cc0_scoped5 cc0_scoped6 cc0_scoped7 cc0_scoped8 cc0_scoped9)
          fun _ => iprop(tdRes X d L ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0_gather2_eq_skeleton]; unfold cc0_gather2_skel
  simp only [k0_part1_eq_skeleton, k0_part2_eq_skeleton, k0_part3_eq_skeleton, k0_part4_eq_skeleton, k0_part5_eq_skeleton, k0_part6_eq_skeleton]
  rw [(K (F := F)).scopedBufs_V hF d (cV L) (jV L), SparseCore.Cfg.scopedSems0_V (Val := Elt F) d (cV L) (jV L), ownSems0_V, ownBufs_V]
  iintro ⟨#Hlv, -, ⟨Hia, Hib, Hta, Htb, Hoa, Hob⟩, ⟨⟨⟨%fxa, Hxa⟩, ⟨%fxb, Hxb⟩, ⟨%fra, Hra⟩, ⟨%frb, Hrb⟩⟩, Hbufs⟩,
    ⟨⟨HsA, HsB, Hs0, Hs1, Hs2, Hs3, Hs4, Hs5, Hs6, Hs7, Hs8, Hs9⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hia' := (Entails.of_eq (show (iaLoc d ↦{sh (L 0) (L 1)} X (iaLoc d) : sProp 𝕄) = (iaV).view.loc (thr d L) ↦{sh (L 0) (L 1)} X (iaLoc d) from rfl)) $$ Hia
  ihave Hib' := (Entails.of_eq (show (ibLoc d ↦{sh (L 0) (L 1)} X (ibLoc d) : sProp 𝕄) = (ibV).view.loc (thr d L) ↦{sh (L 0) (L 1)} X (ibLoc d) from rfl)) $$ Hib
  have hxaS : (xaV).view.set = Finset.univ := View.set_whole _
  have hxbS : (xbV).view.set = Finset.univ := View.set_whole _
  ihave Hxa' := (Entails.of_eq (show ((thr d L).loc cc0_scratch0 ↦{fullShare} fxa : sProp 𝕄) = (xaV).view.loc (thr d L) ↦[(xaV).view.set]{fullShare} fxa by rw [hxaS])) $$ Hxa
  ihave Hxb' := (Entails.of_eq (show ((thr d L).loc cc0_scratch1 ↦{fullShare} fxb : sProp 𝕄) = (xbV).view.loc (thr d L) ↦[(xbV).view.set]{fullShare} fxb by rw [hxbS])) $$ Hxb
  ihave Hxa'' := (Entails.of_eq (idx_rows (F := F) d L xaV fxa)) $$ Hxa'
  ihave Hxb'' := (Entails.of_eq (idx_rows (F := F) d L xbV fxb)) $$ Hxb'
  icases Hxa'' with ⟨Hxa0, Hxa1, Hxa2, Hxa3⟩
  icases Hxb'' with ⟨Hxb0, Hxb1, Hxb2, Hxb3⟩
  sl_exec
  have hA : InRange d L iaV (X (iaLoc d)) := fun x => (hpre d x).1
  have hB : InRange d L ibV (X (ibLoc d)) := fun x => (hpre d x).2
  ihave Hta' := (pointsTo_split_subset (q := sh (L 0) (L 1)) (f := X (taLoc d)) (S := Finset.univ) (Finset.subset_univ (tabAll taV).view.set)).1 $$ Hta
  icases Hta' with ⟨Hta', Htar⟩
  ihave Htas := (Entails.of_eq (tab_four (F := F) d L taV (X (taLoc d)) (sh (L 0) (L 1)))) $$ Hta'
  icases Htas with ⟨Hta0, Hta1, Hta2, Hta3⟩
  have hraS : (raV).view.set = Finset.univ := View.set_whole _
  ihave Hra' := (Entails.of_eq (show ((thr d L).loc cc0_scratch2 ↦{fullShare} fra : sProp 𝕄) = (raV).view.loc (thr d L) ↦[(raV).view.set]{fullShare} fra by rw [hraS])) $$ Hra
  ihave Hra'' := (Entails.of_eq (rws_chunks (F := F) d L raV fra)) $$ Hra'
  icases Hra'' with ⟨Hra0, Hra1, Hra2, Hra3⟩
  imod (side_open d L iaV taV xaV raV (X (iaLoc d)) (X (taLoc d)) fxa fra (sem := cc0_scratch4.sem) (sh (L 0) (L 1)) hA) $$ HsA with ⟨%γa, %γ₀a, %κa, #Hinva, Hca, Ca0, Ca1, Ca2, Ca3⟩
  ihave Htb' := (pointsTo_split_subset (q := sh (L 0) (L 1)) (f := X (tbLoc d)) (S := Finset.univ) (Finset.subset_univ (tabAll tbV).view.set)).1 $$ Htb
  icases Htb' with ⟨Htb', Htbr⟩
  ihave Htbs := (Entails.of_eq (tab_four (F := F) d L tbV (X (tbLoc d)) (sh (L 0) (L 1)))) $$ Htb'
  icases Htbs with ⟨Htb0, Htb1, Htb2, Htb3⟩
  have hrbS : (rbV).view.set = Finset.univ := View.set_whole _
  ihave Hrb' := (Entails.of_eq (show ((thr d L).loc cc0_scratch3 ↦{fullShare} frb : sProp 𝕄) = (rbV).view.loc (thr d L) ↦[(rbV).view.set]{fullShare} frb by rw [hrbS])) $$ Hrb
  ihave Hrb'' := (Entails.of_eq (rws_chunks (F := F) d L rbV frb)) $$ Hrb'
  icases Hrb'' with ⟨Hrb0, Hrb1, Hrb2, Hrb3⟩
  imod (side_open d L ibV tbV xbV rbV (X (ibLoc d)) (X (tbLoc d)) fxb frb (sem := cc0_scratch5.sem) (sh (L 0) (L 1)) hB) $$ HsB with ⟨%γb, %γ₀b, %κb, #Hinvb, Hcb, Cb0, Cb1, Cb2, Cb3⟩
  iapply (side_issue d L iaV taV xaV raV (X (iaLoc d)) (X (taLoc d)) fxa fra (sh (L 0) (L 1)) hA 0 (by decide)) $$ [Hta0 Hra0 Hxa0 Ca0]
  · iframe Hinva Hta0 Hra0 Ca0
    iapply (row_fetched (F := F) d L); iexact Hxa0
  iintro Ra0
  iapply (side_issue d L ibV tbV xbV rbV (X (ibLoc d)) (X (tbLoc d)) fxb frb (sh (L 0) (L 1)) hB 0 (by decide)) $$ [Htb0 Hrb0 Hxb0 Cb0]
  · iframe Hinvb Htb0 Hrb0 Cb0
    iapply (row_fetched (F := F) d L); iexact Hxb0
  iintro Rb0
  iapply (side_issue d L iaV taV xaV raV (X (iaLoc d)) (X (taLoc d)) fxa fra (sh (L 0) (L 1)) hA 1 (by decide)) $$ [Hta1 Hra1 Hxa1 Ca1]
  · iframe Hinva Hta1 Hra1 Ca1
    iapply (row_fetched (F := F) d L); iexact Hxa1
  iintro Ra1
  iapply (side_issue d L ibV tbV xbV rbV (X (ibLoc d)) (X (tbLoc d)) fxb frb (sh (L 0) (L 1)) hB 1 (by decide)) $$ [Htb1 Hrb1 Hxb1 Cb1]
  · iframe Hinvb Htb1 Hrb1 Cb1
    iapply (row_fetched (F := F) d L); iexact Hxb1
  iintro Rb1
  iapply (side_issue d L iaV taV xaV raV (X (iaLoc d)) (X (taLoc d)) fxa fra (sh (L 0) (L 1)) hA 2 (by decide)) $$ [Hta2 Hra2 Hxa2 Ca2]
  · iframe Hinva Hta2 Hra2 Ca2
    iapply (row_fetched (F := F) d L); iexact Hxa2
  iintro Ra2
  sl_exec
  iapply (side_issue d L ibV tbV xbV rbV (X (ibLoc d)) (X (tbLoc d)) fxb frb (sh (L 0) (L 1)) hB 2 (by decide)) $$ [Htb2 Hrb2 Hxb2 Cb2]
  · iframe Hinvb Htb2 Hrb2 Cb2
    iapply (row_fetched (F := F) d L); iexact Hxb2
  iintro Rb2
  iapply (side_issue d L iaV taV xaV raV (X (iaLoc d)) (X (taLoc d)) fxa fra (sh (L 0) (L 1)) hA 3 (by decide)) $$ [Hta3 Hra3 Hxa3 Ca3]
  · iframe Hinva Hta3 Hra3 Ca3
    iapply (row_fetched (F := F) d L); iexact Hxa3
  iintro Ra3
  iapply (side_issue d L ibV tbV xbV rbV (X (ibLoc d)) (X (tbLoc d)) fxb frb (sh (L 0) (L 1)) hB 3 (by decide)) $$ [Htb3 Hrb3 Hxb3 Cb3]
  · iframe Hinvb Htb3 Hrb3 Cb3
    iapply (row_fetched (F := F) d L); iexact Hxb3
  iintro Rb3
  ihave HBa := (side_batch d L iaV taV xaV raV (X (iaLoc d)) (X (taLoc d)) fxa fra (sem := cc0_scratch4.sem) (sh (L 0) (L 1)) hA) $$ [Hca Ra0 Ra1 Ra2 Ra3]
  · iframe Hinva Hca Ra0 Ra1 Ra2 Ra3
  ihave HBb := (side_batch d L ibV tbV xbV rbV (X (ibLoc d)) (X (tbLoc d)) fxb frb (sem := cc0_scratch5.sem) (sh (L 0) (L 1)) hB) $$ [Hcb Rb0 Rb1 Rb2 Rb3]
  · iframe Hinvb Hcb Rb0 Rb1 Rb2 Rb3
  iapply (side_wait d L taV raV (sideD d L iaV taV xaV raV (X (iaLoc d)) (X (taLoc d)) fxa fra (sh (L 0) (L 1)) hA) 0 (0) (by decide) (by decide)) $$ [HBa HO]
  · iframe HBa HO Hmw
  iintro ⟨HBa, HO⟩
  iapply (side_wait d L tbV rbV (sideD d L ibV tbV xbV rbV (X (ibLoc d)) (X (tbLoc d)) fxb frb (sh (L 0) (L 1)) hB) 0 (0) (by decide) (by decide)) $$ [HBb HO]
  · iframe HBb HO Hmw
  iintro ⟨HBb, HO⟩
  iapply (side_wait d L taV raV (sideD d L iaV taV xaV raV (X (iaLoc d)) (X (taLoc d)) fxa fra (sh (L 0) (L 1)) hA) 1 (0 + 128 * 512) (by decide) (by decide)) $$ [HBa HO]
  · iframe HBa HO Hmw
  iintro ⟨HBa, HO⟩
  sl_step
  beta_reduce
  rw [wp_bind]
  unfold k0_part6_skel
  iapply (side_wait d L tbV rbV (sideD d L ibV tbV xbV rbV (X (ibLoc d)) (X (tbLoc d)) fxb frb (sh (L 0) (L 1)) hB) 1 (0 + 128 * 512) (by decide) (by decide)) $$ [HBb HO]
  · iframe HBb HO Hmw
  iintro ⟨HBb, HO⟩
  iapply (side_wait d L taV raV (sideD d L iaV taV xaV raV (X (iaLoc d)) (X (taLoc d)) fxa fra (sh (L 0) (L 1)) hA) 2 (0 + 128 * 512 + 128 * 512) (by decide) (by decide)) $$ [HBa HO]
  · iframe HBa HO Hmw
  iintro ⟨HBa, HO⟩
  iapply (side_wait d L tbV rbV (sideD d L ibV tbV xbV rbV (X (ibLoc d)) (X (tbLoc d)) fxb frb (sh (L 0) (L 1)) hB) 2 (0 + 128 * 512 + 128 * 512) (by decide) (by decide)) $$ [HBb HO]
  · iframe HBb HO Hmw
  iintro ⟨HBb, HO⟩
  iapply (side_wait_last d L taV raV (sideD d L iaV taV xaV raV (X (iaLoc d)) (X (taLoc d)) fxa fra (sh (L 0) (L 1)) hA) 3 (0 + 128 * 512 + 128 * 512 + 128 * 512) (by decide) (by decide)) $$ [HBa HO]
  · iframe HBa HO Hmw
  iintro ⟨HDa, HsA, HO⟩
  iapply (side_wait_last d L tbV rbV (sideD d L ibV tbV xbV rbV (X (ibLoc d)) (X (tbLoc d)) fxb frb (sh (L 0) (L 1)) hB) 3 (0 + 128 * 512 + 128 * 512 + 128 * 512) (by decide) (by decide)) $$ [HBb HO]
  · iframe HBb HO Hmw
  iintro ⟨HDb, HsB, HO⟩
  ihave HJa := (side_join (U := UU) (Ix := HIx 1) d L iaV taV xaV raV (X (iaLoc d)) (X (taLoc d)) fxa fra (sh (L 0) (L 1)) hA) $$ HDa
  icases HJa with ⟨⟨%ga, %hga, Hra⟩, Hta', ⟨%fxa', Hxa⟩⟩
  ihave HJb := (side_join (U := UU) (Ix := HIx 1) d L ibV tbV xbV rbV (X (ibLoc d)) (X (tbLoc d)) fxb frb (sh (L 0) (L 1)) hB) $$ HDb
  icases HJb with ⟨⟨%gb, %hgb, Hrb⟩, Htb', ⟨%fxb', Hxb⟩⟩
  ihave Hoa' := (Entails.of_eq (show (oaLoc d ↦[oaSet d L]{fullShare} X (oaLoc d) : sProp 𝕄) = ((oblk L oaV).view.loc (thr d L) ↦[(oblk L oaV).view.set]{fullShare} X (oaLoc d)) from rfl)) $$ Hoa
  ihave Hob' := (Entails.of_eq (show (obLoc d ↦[obSet d L]{fullShare} X (obLoc d) : sProp 𝕄) = ((oblk L obV).view.loc (thr d L) ↦[(oblk L obV).view.set]{fullShare} X (obLoc d)) from rfl)) $$ Hob
  sl_exec
  sl_step
  ihave Hoa2 := (Entails.of_eq ((show ((oblk L oaV).view.loc (thr d L) ↦[(oblk L oaV).view.set]{fullShare}
        (oblk L oaV).view.writes (Elt F) (X (oaLoc d)) [⟨Rect.whole S512x16, tile_body.sl.dma0_8 d L ga⟩] : sProp 𝕄)
      = (oaLoc d ↦[oaSet d L]{fullShare} resA X d) from
    out_rows (F := F) d L oaV (X (oaLoc d)) (resA X d) _ fun y => (congrFun hga y).symm))) $$ Hoa'
  ihave Hta := (pointsTo_split_subset (q := sh (L 0) (L 1)) (f := X (taLoc d)) (S := Finset.univ) (Finset.subset_univ (tabAll taV).view.set)).2 $$ [Hta' Htar]
  · iframe Hta' Htar
  ihave Hxa3 := (Entails.of_eq (show ((xaV).view.loc (thr d L) ↦[(xaV).view.set]{fullShare} fxa' : sProp 𝕄) = ((thr d L).loc cc0_scratch0 ↦{fullShare} fxa') by rw [hxaS])) $$ Hxa
  ihave Hra3 := (Entails.of_eq (show ((raV).view.loc (thr d L) ↦[(raV).view.set]{fullShare} ga : sProp 𝕄) = ((thr d L).loc cc0_scratch2 ↦{fullShare} ga) by rw [hraS])) $$ Hra
  ihave Hob2 := (Entails.of_eq ((show ((oblk L obV).view.loc (thr d L) ↦[(oblk L obV).view.set]{fullShare}
        (oblk L obV).view.writes (Elt F) (X (obLoc d)) [⟨Rect.whole S512x16, tile_body.sl.dma0_9 d L gb⟩] : sProp 𝕄)
      = (obLoc d ↦[obSet d L]{fullShare} resB X d) from
    out_rows (F := F) d L obV (X (obLoc d)) (resB X d) _ fun y => (congrFun hgb y).symm))) $$ Hob'
  ihave Htb := (pointsTo_split_subset (q := sh (L 0) (L 1)) (f := X (tbLoc d)) (S := Finset.univ) (Finset.subset_univ (tabAll tbV).view.set)).2 $$ [Htb' Htbr]
  · iframe Htb' Htbr
  ihave Hxb3' := (Entails.of_eq (show ((xbV).view.loc (thr d L) ↦[(xbV).view.set]{fullShare} fxb' : sProp 𝕄) = ((thr d L).loc cc0_scratch1 ↦{fullShare} fxb') by rw [hxbS])) $$ Hxb
  ihave Hrb3' := (Entails.of_eq (show ((rbV).view.loc (thr d L) ↦[(rbV).view.set]{fullShare} gb : sProp 𝕄) = ((thr d L).loc cc0_scratch3 ↦{fullShare} gb) by rw [hrbS])) $$ Hrb
  isplitl [Hia' Hib' Hta Htb Hoa2 Hob2]
  · iframe Hia' Hib' Hta Htb Hoa2 Hob2
  isplitl [Hxa3 Hxb3' Hra3 Hrb3' Hbufs]
  · isplitr [Hbufs]
    · isplitl [Hxa3]; · iexists _; iexact Hxa3
      isplitl [Hxb3']; · iexists _; iexact Hxb3'
      isplitl [Hra3]; · iexists _; iexact Hra3
      iexists _; iexact Hrb3'
    iexact Hbufs
  isplitl [HsA HsB Hs0 Hs1 Hs2 Hs3 Hs4 Hs5 Hs6 Hs7 Hs8 Hs9 Hsems]
  · isplitr [Hsems]
    · iframe HsA HsB Hs0 Hs1 Hs2 Hs3 Hs4 Hs5 Hs6 Hs7 Hs8 Hs9
    iexact Hsems
  iexists _
  isplitr [HO]
  rotate_left
  · iexact HO
  ipureintro
  intro p hp
  iterate 18
    rcases Finset.mem_insert.mp hp with rfl | hp
    · exact Or.inr (Or.inl rfl)
  exact Or.inl hp

end Body

end Cert.Proof.RunKernelIdeal
-- ==== Proof.CallKernelIdeal.lean ====
/-
  The SparseCore call as the launch sees it: what each SparseCore and each tile is handed and hands back, each tile's
  obligation, how a SparseCore's part splits into its tiles', and how the six arrays split into the SparseCores' parts.
-/
module

public import proofs.«01_k».proof.Proof.TileKernelIdeal

@[expose] public section

noncomputable section

namespace Cert.Proof.RunKernelIdeal

open Cert.KernelIdeal Cert.KernelIdeal.Gen

open Idealize.ShloMosaic
open Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The coordinates of tile `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))

theorem nCore_zero : (K (F := F)).nCore 0 = 2 := rfl
theorem nSub_zero : (K (F := F)).nSub 0 = 16 := rfl

variable (X : (ℓ : Loc nD τ sig) → Buf (Elt F) ℓ)

/-! ## What is handed over -/

/-- A tile's part, the outputs' rows at `fa` and `fb`. -/
abbrev tileRes (d : Dev nD) (fa : Buf (Elt F) (oaLoc d)) (fb : Buf (Elt F) (obLoc d)) (c : Fin 2) (i : Fin 16) : sProp 𝕄 :=
  iprop((iaLoc d ↦{sh c i} X (iaLoc d)) ∗ (ibLoc d ↦{sh c i} X (ibLoc d))
    ∗ (taLoc d ↦{sh c i} X (taLoc d)) ∗ (tbLoc d ↦{sh c i} X (tbLoc d))
    ∗ (oaLoc d ↦[oaSet d (coordsV c i)]{fullShare} fa) ∗ (obLoc d ↦[obSet d (coordsV c i)]{fullShare} fb))

/-- The share of the read-only arrays that SparseCore `c` holds. -/
abbrev csh (c : Fin 2) : PosShare TreeShare := pieceOf fullShare 2 (by decide) c

/-- A SparseCore's part: its share of what is read, and its tiles' rows of the outputs. -/
abbrev coreRes (d : Dev nD) (fa : Buf (Elt F) (oaLoc d)) (fb : Buf (Elt F) (obLoc d)) (c : Fin 2) : sProp 𝕄 :=
  iprop((iaLoc d ↦{csh c} X (iaLoc d)) ∗ (ibLoc d ↦{csh c} X (ibLoc d))
    ∗ (taLoc d ↦{csh c} X (taLoc d)) ∗ (tbLoc d ↦{csh c} X (tbLoc d))
    ∗ (bigSep Finset.univ fun i : Fin 16 => oaLoc d ↦[oaSet d (coordsV c i)]{fullShare} fa)
    ∗ (bigSep Finset.univ fun i : Fin 16 => obLoc d ↦[obSet d (coordsV c i)]{fullShare} fb))

/-- The six arrays whole. -/
abbrev wholeRes (d : Dev nD) (fa : Buf (Elt F) (oaLoc d)) (fb : Buf (Elt F) (obLoc d)) : sProp 𝕄 :=
  iprop((iaLoc d ↦{fullShare} X (iaLoc d)) ∗ (ibLoc d ↦{fullShare} X (ibLoc d))
    ∗ (taLoc d ↦{fullShare} X (taLoc d)) ∗ (tbLoc d ↦{fullShare} X (tbLoc d))
    ∗ (oaLoc d ↦{fullShare} fa) ∗ (obLoc d ↦{fullShare} fb))

theorem core_split (d : Dev nD) (fa : Buf (Elt F) (oaLoc d)) (fb : Buf (Elt F) (obLoc d)) (c : Fin 2) :
    coreRes X d fa fb c = bigSep Finset.univ fun i : Fin 16 => tileRes X d fa fb c i := by
  rw [bigSep_sep', bigSep_sep', bigSep_sep', bigSep_sep', bigSep_sep']
  unfold coreRes
  rw [pointsTo_piecesOf (ℓ := iaLoc d) Finset.univ (X (iaLoc d)) (o := 16) (by decide) (csh c),
    pointsTo_piecesOf (ℓ := ibLoc d) Finset.univ (X (ibLoc d)) (o := 16) (by decide) (csh c),
    pointsTo_piecesOf (ℓ := taLoc d) Finset.univ (X (taLoc d)) (o := 16) (by decide) (csh c),
    pointsTo_piecesOf (ℓ := tbLoc d) Finset.univ (X (tbLoc d)) (o := 16) (by decide) (csh c)]

/-! ## The tiles' rows of an output are apart and are all of it -/

theorem mem_oset (L : grid0.Coords) (j : S16384x16.Idx) :
    j ∈ (Rect.unit (s := S16384x16) (k0_off2 L) S512x16.size (k0_off2_inb L)).set
      ↔ 1024 * (L 1).val + 512 * (L 0).val ≤ (j 0).val ∧ (j 0).val < 1024 * (L 1).val + 512 * (L 0).val + 512 := by
  rw [Rect.mem_set_unit, k0_off2_eq]
  constructor
  · intro h; have h0 := h 0; simpa using h0
  · intro h a
    match a with
    | ⟨0, _⟩ => simpa using h
    | ⟨1, _⟩ => have := (j 1).isLt; simp at this ⊢; omega

theorem oaSet_eq (d : Dev nD) (L : grid0.Coords) : oaSet d L = (Rect.unit (s := S16384x16) (k0_off2 L) S512x16.size (k0_off2_inb L)).set := by
  show ((View.whole (main_v7_0_scv : Ref sig .scVector)).slice _).set = _
  rw [View.set_slice]; exact Finset.map_refl
theorem obSet_eq (d : Dev nD) (L : grid0.Coords) : obSet d L = (Rect.unit (s := S16384x16) (k0_off2 L) S512x16.size (k0_off2_inb L)).set := by
  show ((View.whole (main_v7_1_scv : Ref sig .scVector)).slice _).set = _
  rw [View.set_slice]; exact Finset.map_refl

/-- The rows of tile `p.2` of SparseCore `p.1`. -/
abbrev rowsOf (p : Fin 2 × Fin 16) : Finset S16384x16.Idx :=
  (Rect.unit (s := S16384x16) (k0_off2 (coordsV p.1 p.2)) S512x16.size (k0_off2_inb (coordsV p.1 p.2))).set

theorem mem_rowsOf (p : Fin 2 × Fin 16) (j : S16384x16.Idx) :
    j ∈ rowsOf p ↔ 1024 * p.2.val + 512 * p.1.val ≤ (j 0).val ∧ (j 0).val < 1024 * p.2.val + 512 * p.1.val + 512 :=
  mem_oset (coordsV p.1 p.2) j

theorem rows_disjoint : ∀ p ∈ (Finset.univ : Finset (Fin 2 × Fin 16)), ∀ p' ∈ (Finset.univ : Finset (Fin 2 × Fin 16)), p ≠ p' → Disjoint (rowsOf p) (rowsOf p') := by
  intro p _ p' _ hne
  refine Finset.disjoint_left.mpr fun j hj hj' => hne ?_
  rw [mem_rowsOf] at hj hj'
  have h1 := p.1.isLt; have h2 := p'.1.isLt
  refine Prod.ext (Fin.ext ?_) (Fin.ext ?_) <;> omega

theorem rows_cover : (Finset.univ : Finset (Fin 2 × Fin 16)).biUnion rowsOf = Finset.univ := by
  refine Finset.eq_univ_iff_forall.mpr fun j => Finset.mem_biUnion.mpr ?_
  have hj : (j 0).val < 16384 := (j 0).isLt
  refine ⟨(⟨(j 0).val / 512 % 2, by omega⟩, ⟨(j 0).val / 1024, by omega⟩), Finset.mem_univ _, ?_⟩
  rw [mem_rowsOf]
  constructor <;> simp <;> omega

theorem oa_rows (d : Dev nD) (f : Buf (Elt F) (oaLoc d)) :
    (oaLoc d ↦{fullShare} f : sProp 𝕄) = bigSep Finset.univ fun c : Fin 2 => bigSep Finset.univ fun i : Fin 16 => oaLoc d ↦[oaSet d (coordsV c i)]{fullShare} f := by
  simp only [oaSet_eq]
  rw [← BI.bigSep_univ_prod (fun p : Fin 2 × Fin 16 => (oaLoc d ↦[rowsOf p]{fullShare} f : sProp 𝕄))]
  exact ((pointsTo_biUnion (ℓ := oaLoc d) (q := fullShare) (f := f) Finset.univ rowsOf rows_disjoint).symm.trans (by rw [rows_cover])).symm
theorem ob_rows (d : Dev nD) (f : Buf (Elt F) (obLoc d)) :
    (obLoc d ↦{fullShare} f : sProp 𝕄) = bigSep Finset.univ fun c : Fin 2 => bigSep Finset.univ fun i : Fin 16 => obLoc d ↦[obSet d (coordsV c i)]{fullShare} f := by
  simp only [obSet_eq]
  rw [← BI.bigSep_univ_prod (fun p : Fin 2 × Fin 16 => (obLoc d ↦[rowsOf p]{fullShare} f : sProp 𝕄))]
  exact ((pointsTo_biUnion (ℓ := obLoc d) (q := fullShare) (f := f) Finset.univ rowsOf rows_disjoint).symm.trans (by rw [rows_cover])).symm

theorem whole_split (d : Dev nD) (fa : Buf (Elt F) (oaLoc d)) (fb : Buf (Elt F) (obLoc d)) :
    wholeRes X d fa fb = bigSep Finset.univ fun c : Fin 2 => coreRes X d fa fb c := by
  rw [bigSep_sep', bigSep_sep', bigSep_sep', bigSep_sep', bigSep_sep']
  unfold wholeRes
  rw [pointsTo_piecesOf (ℓ := iaLoc d) Finset.univ (X (iaLoc d)) (o := 2) (by decide) fullShare,
    pointsTo_piecesOf (ℓ := ibLoc d) Finset.univ (X (ibLoc d)) (o := 2) (by decide) fullShare,
    pointsTo_piecesOf (ℓ := taLoc d) Finset.univ (X (taLoc d)) (o := 2) (by decide) fullShare,
    pointsTo_piecesOf (ℓ := tbLoc d) Finset.univ (X (tbLoc d)) (o := 2) (by decide) fullShare, oa_rows, ob_rows]

/-! ## The handshakes' payloads -/

/-- The call takes the six arrays, the ids and tables in shares, and brings the outputs back at the picked rows. -/
def P : (K (F := F)).Pay (nD := nD) (Val := Elt F) (Name := ℕ) (U := UU) where
  st := fun q d c => match q with | 0 => coreRes X d (X (oaLoc d)) (X (obLoc d)) (Fin.cast nCore_zero c)
  dn := fun q d c => match q with | 0 => coreRes X d (resA X d) (resB X d) (Fin.cast nCore_zero c)
  go := fun q d c i => match q with | 0 => tileRes X d (X (oaLoc d)) (X (obLoc d)) (Fin.cast nCore_zero c) (Fin.cast nSub_zero i)
  td := fun q d c i => match q with | 0 => tileRes X d (resA X d) (resB X d) (Fin.cast nCore_zero c) (Fin.cast nSub_zero i)
  x := fun _ _ => iprop(emp)

instance P_storable : (P (F := F) X).IsStorable where
  st q d c := match q with
    | 0 => (inferInstance : BI.Storable (upEmb : UEmb _ 𝕄) (coreRes X d (X (oaLoc d)) (X (obLoc d)) (Fin.cast nCore_zero c)))
  dn q d c := match q with
    | 0 => (inferInstance : BI.Storable (upEmb : UEmb _ 𝕄) (coreRes X d (resA X d) (resB X d) (Fin.cast nCore_zero c)))
  go q d c i := match q with
    | 0 => (inferInstance : BI.Storable (upEmb : UEmb _ 𝕄)
      (tileRes X d (X (oaLoc d)) (X (obLoc d)) (Fin.cast nCore_zero c) (Fin.cast nSub_zero i)))
  td q d c i := match q with
    | 0 => (inferInstance : BI.Storable (upEmb : UEmb _ 𝕄)
      (tileRes X d (resA X d) (resB X d) (Fin.cast nCore_zero c) (Fin.cast nSub_zero i)))

theorem st0_eq (d : Dev nD) : (bigSep Finset.univ fun c : Fin ((K (F := F)).nCore 0) => (P X).st 0 d c) = wholeRes X d (X (oaLoc d)) (X (obLoc d)) :=
  (whole_split X d _ _).symm
theorem dn0_eq (d : Dev nD) : (bigSep Finset.univ fun c : Fin ((K (F := F)).nCore 0) => (P X).dn 0 d c) = wholeRes X d (resA X d) (resB X d) :=
  (whole_split X d _ _).symm

theorem vecSplit : (K (F := F)).VecSplit' (P X) 0 := by
  intro d c
  show coreRes X d (X (oaLoc d)) (X (obLoc d)) (Fin.cast nCore_zero c) ⊢ |={Set.univ}=> iprop(
      (bigSep Finset.univ fun i : Fin 16 => tileRes X d (X (oaLoc d)) (X (obLoc d)) (Fin.cast nCore_zero c) i)
      ∗ ((bigSep Finset.univ fun i : Fin 16 => tileRes X d (resA X d) (resB X d) (Fin.cast nCore_zero c) i)
          -∗ coreRes X d (resA X d) (resB X d) (Fin.cast nCore_zero c)))
  rw [← core_split, ← core_split]
  iintro H; imodintro
  isplitl [H]; · iexact H
  iintro H; iexact H

/-! ## A tile's obligation -/

section Obl

variable [FloatOps F]

local notation "iaV" => (Memref.whole Cert.KernelIdeal.main_v2_scv : Memref Cert.KernelIdeal.sig Kind.scVector Space.hbm Cert.KernelIdeal.S16384 EltTy.i32)
local notation "ibV" => (Memref.whole Cert.KernelIdeal.main_v5_scv : Memref Cert.KernelIdeal.sig Kind.scVector Space.hbm Cert.KernelIdeal.S16384 EltTy.i32)
local notation "taV" => (Memref.whole Cert.KernelIdeal.main_arg1_scv : Memref Cert.KernelIdeal.sig Kind.scVector Space.hbm Cert.KernelIdeal.S100000x16 EltTy.f32)
local notation "tbV" => (Memref.whole Cert.KernelIdeal.main_arg2_scv : Memref Cert.KernelIdeal.sig Kind.scVector Space.hbm Cert.KernelIdeal.S100000x16 EltTy.f32)
local notation "oaV" => (Memref.whole Cert.KernelIdeal.main_v7_0_scv : Memref Cert.KernelIdeal.sig Kind.scVector Space.hbm Cert.KernelIdeal.S16384x16 EltTy.f32)
local notation "obV" => (Memref.whole Cert.KernelIdeal.main_v7_1_scv : Memref Cert.KernelIdeal.sig Kind.scVector Space.hbm Cert.KernelIdeal.S16384x16 EltTy.f32)
local notation "xaV" => (Memref.whole Cert.KernelIdeal.cc0_scratch0 : Memref Cert.KernelIdeal.sig Kind.scVector Space.vmem Cert.KernelIdeal.S4x128 EltTy.i32)
local notation "xbV" => (Memref.whole Cert.KernelIdeal.cc0_scratch1 : Memref Cert.KernelIdeal.sig Kind.scVector Space.vmem Cert.KernelIdeal.S4x128 EltTy.i32)
local notation "raV" => (Memref.whole Cert.KernelIdeal.cc0_scratch2 : Memref Cert.KernelIdeal.sig Kind.scVector Space.vmem Cert.KernelIdeal.S512x16 EltTy.f32)
local notation "rbV" => (Memref.whole Cert.KernelIdeal.cc0_scratch3 : Memref Cert.KernelIdeal.sig Kind.scVector Space.vmem Cert.KernelIdeal.S512x16 EltTy.f32)

theorem defs₀_vector (c : Fin τ.nSC) (i : Fin τ.nSub) :
    defs₀ (F := F) (.scVector c i) 0 ()
      = SparseCore.onTile hcore0 hsub0 (fun c i => cc0_gather2 (coordsV c i) iaV (Memref.isWhole_whole _) ibV (Memref.isWhole_whole _)
          taV (Memref.isWhole_whole _) tbV (Memref.isWhole_whole _) oaV (Memref.isWhole_whole _) obV (Memref.isWhole_whole _)
          xaV (Memref.isWhole_whole _) xbV (Memref.isWhole_whole _) raV (Memref.isWhole_whole _) rbV (Memref.isWhole_whole _)
          cc0_scratch4 cc0_scratch5 cc0_scoped0 cc0_scoped1 cc0_scoped2 cc0_scoped3 cc0_scoped4 cc0_scoped5 cc0_scoped6 cc0_scoped7 cc0_scoped8 cc0_scoped9) ⟨⟩ c i := rfl

set_option maxRecDepth 16384 in
theorem tileObl (hF : (K (F := F)).Facts) (hpre : PreOK X) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X d (coordsV ⟨_, hci.1⟩ ⟨_, hci.2⟩) hF hpre O W hO

end Obl

end Cert.Proof.RunKernelIdeal
-- ==== Proof.MlpKernelIdeal.lean ====
/-
  The MLP on the TensorCore: one grid step's body, the region's proof data at any contents of its arrays, the body
  obligation, and what the region leaves in the result.
-/
module

public import proofs.«01_k».proof.Proof.CallKernelIdeal
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS
public import Idealize.ShloMosaic.Lib.Pipeline.Value

@[expose] public section

set_option maxRecDepth 16384

noncomputable section

namespace Cert.Proof.RunKernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation)

variable {F : FTy → Type} [FloatOps F]

local notation "𝕄" => MT nD τ sig (HIx 1) (Elt F) ℕ UU ℕ

/-! ## One grid step -/

/-- The step's result as a function of the blocks it reads. -/
def mlpOut (x0 : Vec F S2048x16 .f32)
    (x1 : Vec F S2048x16 .f32)
    (x2 : Vec F S2048x26 .f32)
    (x3 : Vec F S16x64 .f32)
    (x4 : Vec F S16x64 .f32)
    (x5 : Vec F S26x64 .f32)
    (x6 : Vec F S1x64 .f32)
    (x7 : Vec F S64x32 .f32)
    (x8 : Vec F S1x32 .f32)
    (x9 : Vec F S32x16 .f32)
    (x10 : Vec F S1x16 .f32)
    (x11 : Vec F S1x16 .f32)
    (x12 : Vec F S1x1 .f32) :
    Vec F S2048x1 .f32 :=
  k1_pay1 (k1_pay2 x0 x3 x1 x4 x2 x5 x6 x7 x8) x9 x10 x11 x12

theorem off_zero : (![0, 0] : Fin 2 → ℕ) = fun _ => 0 := by funext a; fin_cases a <;> rfl

/-- A buffer in hand is some contents that read as it does, whatever is held beside it. -/
theorem owns_read {c : Dev nD} {S : Shape} {el : EltTy} (a : Memref sig .tc .vmem S el) (f) {P P' : sProp 𝕄} (h : P ⊢ P') :
    iprop((a.view.loc (c : Thread nD τ) ↦[a.view.set]{fullShare} f) ∗ P)
      ⊢ (iprop((∃ g, ⌜a.view.read (Elt F) g = a.view.read (Elt F) f⌝ ∗ (a.view.loc (c : Thread nD τ) ↦[a.view.set]{fullShare} g)) ∗ P') : sProp 𝕄) := by
  iintro ⟨H, HP⟩
  isplitl [H]
  · iexists f
    iframe H
    ipureintro; rfl
  iapply h $$ HP

/-- A load of a whole buffer reads what the buffer holds. -/
theorem readAt_whole {n m : ℕ} {el : EltTy} (a : Memref sig .tc .vmem (⟨2, ![n, m]⟩ : Shape) el) (inb) (f) :
    View.readAt (Elt F) a.view (Rect.unit (s := ⟨2, ![n, m]⟩) ![0, 0] ![n, m] inb).toLoadRect f = a.view.read (Elt F) f :=
  View.ld_unit_zero (S := ⟨2, ![n, m]⟩) off_zero inb (a.view.read (Elt F) f)

set_option maxHeartbeats 1000000 in
/-- The body, from its blocks held whole, leaves the inputs as they were and the output's at `mlpOut` of them. -/
theorem mlp_body (c : Dev nD) (E : Set ℕ) (i : grid1.Coords)
    (a0 : Memref sig .tc .vmem S2048x16 .f32) (h0 : a0.IsWhole)
    (a1 : Memref sig .tc .vmem S2048x16 .f32) (h1 : a1.IsWhole)
    (a2 : Memref sig .tc .vmem S2048x26 .f32) (h2 : a2.IsWhole)
    (a3 : Memref sig .tc .vmem S16x64 .f32) (h3 : a3.IsWhole)
    (a4 : Memref sig .tc .vmem S16x64 .f32) (h4 : a4.IsWhole)
    (a5 : Memref sig .tc .vmem S26x64 .f32) (h5 : a5.IsWhole)
    (a6 : Memref sig .tc .vmem S1x64 .f32) (h6 : a6.IsWhole)
    (a7 : Memref sig .tc .vmem S64x32 .f32) (h7 : a7.IsWhole)
    (a8 : Memref sig .tc .vmem S1x32 .f32) (h8 : a8.IsWhole)
    (a9 : Memref sig .tc .vmem S32x16 .f32) (h9 : a9.IsWhole)
    (a10 : Memref sig .tc .vmem S1x16 .f32) (h10 : a10.IsWhole)
    (a11 : Memref sig .tc .vmem S1x16 .f32) (h11 : a11.IsWhole)
    (a12 : Memref sig .tc .vmem S1x1 .f32) (h12 : a12.IsWhole)
    (a13 : Memref sig .tc .vmem S2048x1 .f32) (h13 : a13.IsWhole)
    (x0 : Vec F S2048x16 .f32)
    (x1 : Vec F S2048x16 .f32)
    (x2 : Vec F S2048x26 .f32)
    (x3 : Vec F S16x64 .f32)
    (x4 : Vec F S16x64 .f32)
    (x5 : Vec F S26x64 .f32)
    (x6 : Vec F S1x64 .f32)
    (x7 : Vec F S64x32 .f32)
    (x8 : Vec F S1x32 .f32)
    (x9 : Vec F S32x16 .f32)
    (x10 : Vec F S1x16 .f32)
    (x11 : Vec F S1x16 .f32)
    (x12 : Vec F S1x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (mlpOut x0 x1 x2 x3 x4 x5 x6 x7 x8 x9 x10 x11 x12)) -∗ Q ⟨⟩))
      ⊢ wp frame (wpE (defs₀ (F := F)) 𝒱₀ c none) E (cc1__mlp_body i a0 h0 a1 h1 a2 h2 a3 h3 a4 h4 a5 h5 a6 h6 a7 h7 a8 h8 a9 h9 a10 h10 a11 h11 a12 h12 a13 h13) Q := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  iapply (owns_read a0 f0 <| owns_read a1 f1 <| owns_read a2 f2 <| owns_read a3 f3 <| owns_read a4 f4 <| owns_read a5 f5 <| owns_read a6 f6 <|
    owns_read a7 f7 <| owns_read a8 f8 <| owns_read a9 f9 <| owns_read a10 f10 <| owns_read a11 f11 <| owns_read a12 f12 .rfl)
  iframe H0 H1 H2 H3 H4 H5 H6 H7 H8 H9 H10 H11 H12
  iexists _; isplitr
  swap; · iexact H13
  ipureintro
  refine (View.read_writes_eq_canon _ _ _ (View.cover_of_tiled _ S2048x1.size (by rfl))).trans ?_
  unfold mlpOut
  unfold mlp_body.sl.r mlp_body.sl.r_1
  refine (View.canon_unit_zero (S := S2048x1) off_zero _ _).trans ?_
  simp only [readAt_whole]

/-! ## The region's proof data -/

variable (V : Dev nD → Valuation τ sig (Elt F))

/-- Window `w`'s block at step `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The proof data: the arrays at `V`, each input's block left in place, the result's at `mlpOut` of the blocks. -/
def mdat (c : Dev nD) : Dat τ (Elt F) (HIx 1) ℕ UU ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => mlpOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.scopedRest spec1 c
  q _ := fullShare
  owed _ := 0

theorem mdat_A (c : Dev nD) (w : Fin cfg1.W) : (mdat V c).A w = V c (Proc.devRef .tc (Pipeline.arrRef spec1 w)) := by
  dsimp only [mdat]

theorem mdat_after_out (c : Dev nD) (t : Fin cfg1.N) :
    (mdat V c).after 13 t = mlpOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by
  dsimp only [mdat]

/-- Each input's staging buffer holds its block when the body runs, fetched there or kept from the step before. -/
theorem mdat_before (c : Dev nD) (w : Fin cfg1.W) (hin : (cfg1.win w).isOut = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((mdat V c).after w t) = (mdat V c).blockOf w t) (t : Fin cfg1.N)
    (d : (cfg1.win w).block.Idx → Elt F (cfg1.win w).elt) : (mdat V c).before w t d = (mdat V c).fetched w t d :=
  (mdat V c).before_in_eq_fetched w hin (fun _ => rfl) hclip hkeep t d

/-- So every input's buffer holds its block. -/
theorem mdat_reads (c : Dev nD) (t : Fin cfg1.N) :
    (∀ d, (mdat V c).before 0 t d = iblk V c 0 t)
      ∧ (∀ d, (mdat V c).before 1 t d = iblk V c 1 t)
      ∧ (∀ d, (mdat V c).before 2 t d = iblk V c 2 t)
      ∧ (∀ d, (mdat V c).before 3 t d = iblk V c 3 t)
      ∧ (∀ d, (mdat V c).before 4 t d = iblk V c 4 t)
      ∧ (∀ d, (mdat V c).before 5 t d = iblk V c 5 t)
      ∧ (∀ d, (mdat V c).before 6 t d = iblk V c 6 t)
      ∧ (∀ d, (mdat V c).before 7 t d = iblk V c 7 t)
      ∧ (∀ d, (mdat V c).before 8 t d = iblk V c 8 t)
      ∧ (∀ d, (mdat V c).before 9 t d = iblk V c 9 t)
      ∧ (∀ d, (mdat V c).before 10 t d = iblk V c 10 t)
      ∧ (∀ d, (mdat V c).before 11 t d = iblk V c 11 t)
      ∧ (∀ d, (mdat V c).before 12 t d = iblk V c 12 t) := by
  and_intros <;> exact mdat_before V c _ rfl (fun _ _ _ => rfl) (fun _ => rfl) t

/-! ## The body obligation -/

/-- The body table's entry at step `t` is the body on the step's buffers. -/
theorem defs₀_mlp (t : Fin cfg1.N) : defs₀ (F := F) .tc cfg1.body (cfg1.bodyArgs t (cfg1.slots t)) = bodyAt1 t := by
  rfl

/-- Step `t`, on the buffers the window machinery hands it. -/
theorem mlp_step (c : Dev nD) (t : Fin cfg1.N) :
    iprop((mdat V c).Φ t.castSucc ∗ (mdat V c).owesAt none t.castSucc
        ∗ (∃ d, owns (c : Thread nD τ) (st1_0 t) fullShare ((mdat V c).before 0 t d))
        ∗ (∃ d, owns (c : Thread nD τ) (st1_1 t) fullShare ((mdat V c).before 1 t d))
        ∗ (∃ d, owns (c : Thread nD τ) (st1_2 t) fullShare ((mdat V c).before 2 t d))
        ∗ (∃ d, owns (c : Thread nD τ) (st1_3 t) fullShare ((mdat V c).before 3 t d))
        ∗ (∃ d, owns (c : Thread nD τ) (st1_4 t) fullShare ((mdat V c).before 4 t d))
        ∗ (∃ d, owns (c : Thread nD τ) (st1_5 t) fullShare ((mdat V c).before 5 t d))
        ∗ (∃ d, owns (c : Thread nD τ) (st1_6 t) fullShare ((mdat V c).before 6 t d))
        ∗ (∃ d, owns (c : Thread nD τ) (st1_7 t) fullShare ((mdat V c).before 7 t d))
        ∗ (∃ d, owns (c : Thread nD τ) (st1_8 t) fullShare ((mdat V c).before 8 t d))
        ∗ (∃ d, owns (c : Thread nD τ) (st1_9 t) fullShare ((mdat V c).before 9 t d))
        ∗ (∃ d, owns (c : Thread nD τ) (st1_10 t) fullShare ((mdat V c).before 10 t d))
        ∗ (∃ d, owns (c : Thread nD τ) (st1_11 t) fullShare ((mdat V c).before 11 t d))
        ∗ (∃ d, owns (c : Thread nD τ) (st1_12 t) fullShare ((mdat V c).before 12 t d))
        ∗ (∃ d, owns (c : Thread nD τ) (st1_13 t) fullShare ((mdat V c).before 13 t d)))
      ⊢ wp frame (wpE (defs₀ (F := F)) 𝒱₀ c none) Set.univ (bodyAt1 t) (fun _ =>
        iprop((mdat V c).Φ t.succ ∗ (mdat V c).owesAt none t.succ
          ∗ owns (c : Thread nD τ) (st1_0 t) fullShare (iblk V c 0 t)
          ∗ owns (c : Thread nD τ) (st1_1 t) fullShare (iblk V c 1 t)
          ∗ owns (c : Thread nD τ) (st1_2 t) fullShare (iblk V c 2 t)
          ∗ owns (c : Thread nD τ) (st1_3 t) fullShare (iblk V c 3 t)
          ∗ owns (c : Thread nD τ) (st1_4 t) fullShare (iblk V c 4 t)
          ∗ owns (c : Thread nD τ) (st1_5 t) fullShare (iblk V c 5 t)
          ∗ owns (c : Thread nD τ) (st1_6 t) fullShare (iblk V c 6 t)
          ∗ owns (c : Thread nD τ) (st1_7 t) fullShare (iblk V c 7 t)
          ∗ owns (c : Thread nD τ) (st1_8 t) fullShare (iblk V c 8 t)
          ∗ owns (c : Thread nD τ) (st1_9 t) fullShare (iblk V c 9 t)
          ∗ owns (c : Thread nD τ) (st1_10 t) fullShare (iblk V c 10 t)
          ∗ owns (c : Thread nD τ) (st1_11 t) fullShare (iblk V c 11 t)
          ∗ owns (c : Thread nD τ) (st1_12 t) fullShare (iblk V c 12 t)
          ∗ owns (c : Thread nD τ) (st1_13 t) fullShare ((mdat V c).after 13 t))) := by
  unfold bodyAt1
  simp only [mdat_reads V c t]
  rw [mdat_after_out, show (mdat V c).Φ t.succ = (mdat V c).Φ t.castSucc from rfl,
    show (mdat V c).owesAt none t.succ = (mdat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (mlp_body c Set.univ (grid1.coords t) _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  iframe H0 H1 H2 H3 H4 H5 H6 H7 H8 H9 H10 H11 H12
  isplitl [H13]; · iexists _; iexact H13
  iintro H
  iframe HΦ Ho
  iexact H

theorem mlp_obligation (c : Dev nD) : BodyObligation (mdat V c) (defs₀ (F := F)) 𝒱₀ (none : HIx 1) Set.univ := fun t => by
  rw [bigSep_W1, bigSep_W1, defs₀_mlp]
  exact triple_restated (mlp_step V c t) rfl .rfl fun _ => .rfl

/-! ## The region -/

/-- The pipeline's own rounds, beside the handshakes'. -/
abbrev EP : Emb UP 𝕄 := (Emb.inl : Emb UP (UP × Counters)).trans embR

/-- The pipeline prefetches no table. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => mdat V c

theorem pin_inj : Function.Injective (Pipeline.cellOf (nD := nD) (τ := τ) (Pipeline.pin (pcfgs (F := F)) adm)) :=
  (launch1.toP (Val := Elt F)).cellOf_inj adm

theorem arrs_sub : Pipeline.arrRefs (τ := τ) (pcfgs (F := F) 0).spec ⊆ Pipeline.ucRefs τ sig :=
  Pipeline.arrRefs_sub_ucRefs spec1 (by decide)

/-- The core owes nothing at a staging cell; the transfers' waits are at level 0. -/
theorem mlp_cut : Pipeline.LevelCut (pcfgs (F := F)) adm (none : HIx 1) (K (F := F)).L (K (F := F)).lev 0
    (fun _ : Dev nD => (0 : CellTallies nD τ sig (HIx 1))) (fun _ => (0 : ℕ)) where
  hι _ _ _ := Finset.mem_univ _
  hιb _ _ _ := le_refl 0
  hD _ _ _ h := absurd h (lt_irrefl 0)

set_option backward.isDefEq.respectTransparency.types false in
/-- The region's record, entered from every unscoped buffer held at `V`. -/
def mlpSeg : Pipeline.RegionSeg (pcfgs (F := F)) adm (pdats V) (none : HIx 1) (defs₀ (F := F)) 𝒱₀ (K (F := F)).L (K (F := F)).lev 0 :=
  Pipeline.RegionSeg.ofHeldIn (pcfgs (F := F)) adm (pdats V) (none : HIx 1) (defs₀ (F := F)) 𝒱₀ (K (F := F)).L (K (F := F)).lev 0
    (fun _ => 0) (Pipeline.ucRefs τ sig) (fun _ => BI.emp) (fun _ => BI.emp) launch1.toP rfl
    (fun c => (mlp_obligation V c).loose) (fun _ _ => rfl) (fun _ => rfl) (fun c => (mdat V c).share_full fun _ => rfl)
    (fun c => by
      rw [show (pdats V 0 c).Φ 0 = Pipeline.scopedRest spec1 c from rfl]; iintro ⟨H, -⟩; iexact H)
    (fun c => by
      rw [show (pdats V 0 c).Φ (Fin.last _) = Pipeline.scopedRest spec1 c from rfl]; iintro H; isplitl [H]
      · iexact H
      iempintro)
    (fun _ => 0) mlp_cut (fun _ => BI.emp) V (fun c w => mdat_A V c w)

/-- Every buffer after the region: the result's at what the pipeline writes, the others as they were. -/
def afterMlp (c : Dev nD) : Valuation τ sig (Elt F) := Pipeline.afterRegion (pdats V 0 c) (V c)

theorem mlpSeg_pre (c : Dev nD) :
    iprop(StableHlo.held (c.tc : Thread nD τ) (Pipeline.ucRefs τ sig) (V c)
        ∗ ((∃ W, owes (c.tc : Thread nD τ) (0 : CellTallies nD τ sig (HIx 1)) W) ∗ BI.emp ∗ BI.emp)) ⊢ ((mlpSeg V).pre c : sProp 𝕄) := by
  unfold mlpSeg
  refine BIBase.Entails.trans ?_ (Pipeline.RegionSeg.ofHeldIn_pre arrs_sub c)
  exact .rfl

theorem mlpSeg_post (c : Dev nD) :
    ((mlpSeg V).post c : sProp 𝕄) ⊢ iprop(StableHlo.held (c.tc : Thread nD τ) (Pipeline.ucRefs τ sig) (afterMlp V c)
        ∗ ((∃ W, owes (c.tc : Thread nD τ) (0 : CellTallies nD τ sig (HIx 1)) W) ∗ BI.emp ∗ BI.emp)) := by
  unfold mlpSeg afterMlp
  refine BIBase.Entails.trans (Pipeline.RegionSeg.ofHeldIn_post arrs_sub c) ?_
  exact .rfl

theorem tc_call : (Prog.lift (.customCall (SparseCore.inner (Pipeline.entry 0)) ()) :
      Prog (TpuEff nD τ sig (Elt F) (SparseCore.Sig (ΛP (F := F)) 1) .tc) PUnit)
    = SparseCore.liftProg (Prog.op (.customCall (Pipeline.entry 0) ()) fun _ => Prog.ret ⟨⟩) := rfl

set_option backward.isDefEq.respectTransparency.types false in
/-- The region, run from the boundary and every unscoped buffer. -/
theorem mlp_region (c : Dev nD) (Q : PUnit → sProp 𝕄) :
    iprop((iprop(boundary (c.tc : Thread nD τ) ∗ StableHlo.held (c.tc : Thread nD τ) (Pipeline.ucRefs τ sig) (afterMlp V c)
            ∗ ∃ W, owes (c.tc : Thread nD τ) (0 : CellTallies nD τ sig (HIx 1)) W) -∗ |={Set.univ}=> Q ⟨⟩)
        ∗ boundary (c.tc : Thread nD τ) ∗ StableHlo.held (c.tc : Thread nD τ) (Pipeline.ucRefs τ sig) (V c)
        ∗ (∃ W, owes (c.tc : Thread nD τ) (0 : CellTallies nD τ sig (HIx 1)) W)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (SparseCore.T c) none) Set.univ
          (Prog.lift (.customCall (SparseCore.inner (Pipeline.entry 0)) ())) Q := by
  rw [tc_call]
  refine BIBase.Entails.trans ?_ ((K (F := F)).wp_liftProg (D (F := F)) 𝒱 (SparseCore.T c) Set.univ none _ Q)
  have h := Pipeline.RegionSeg.wp (α := PUnit) (p := 0) (pcfgs (F := F)) adm (pdats V) (none : HIx 1) pin_inj EP (defs₀ (F := F)) 𝒱₀
    (K (F := F)).L (K (F := F)).lev (mlpSeg V) c none (fun _ h => absurd h (Option.not_mem_none _)) (fun _ => Prog.ret PUnit.unit) Q
  refine BIBase.Entails.trans ?_ h
  iintro ⟨Hk, Hb, Hh, HO, Hl, Hc, Ht⟩
  isplitl [Hk]
  · iintro ⟨Hb, Hp⟩
    rw [wp_ret]
    iapply Hk
    isplitl [Hb]; · iexact Hb
    ihave H := (mlpSeg_post V c) $$ Hp
    icases H with ⟨Hh, HO, -, -⟩
    isplitl [Hh]; · iexact Hh
    iexact HO
  isplitl [Hb]; · iexact Hb
  isplitl [Hh HO]
  · iapply (mlpSeg_pre V c)
    isplitl [Hh]; · iexact Hh
    isplitl [HO]; · iexact HO
    isplitr <;> iempintro
  isplitl [Hl]; · iexact Hl
  isplitl [Hc] <;> iassumption

end Cert.Proof.RunKernelIdeal
-- ==== Proof.MainKernelIdeal.lean ====
/-
  @main on the TensorCore: the host operations before the SparseCore call, the call, the host operations after it and
  the MLP's region; then the program's run, with every argument unchanged, every counter back at zero, and the result's
  buffer at `mainOut`.
-/
module

public import proofs.«01_k».proof.Proof.MlpKernelIdeal
public import Idealize.ShloMosaic.Lib.Claim

@[expose] public section

set_option maxRecDepth 16384

noncomputable section

namespace Cert.Proof.RunKernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

/-! ## The host operations -/

/-- Before the call: the ids of each side and the numeric columns, out of `x`. -/
def ops1 : List (HloOp τ sig (Elt F)) :=
  [ unary main_arg0 main_v0 ((extractStridedSlice S16384x1 ![0, 0] · slices_S16384x28_S16384x1_0_0) : (⟨S16384x28, .f32⟩ : BufTy).Contents (Elt F) → (⟨S16384x1, .f32⟩ : BufTy).Contents (Elt F)),
    reshape main_v0 main_v1 (rfl : (.f32 : EltTy) = .f32) shapeCasts_S16384x1_S16384,
    unary main_v1 main_v2 (fptosi 32 : (⟨S16384, .f32⟩ : BufTy).Contents (Elt F) → (⟨S16384, .i32⟩ : BufTy).Contents (Elt F)),
    unary main_arg0 main_v3 ((extractStridedSlice S16384x1 ![0, 1] · slices_S16384x28_S16384x1_0_1) : (⟨S16384x28, .f32⟩ : BufTy).Contents (Elt F) → (⟨S16384x1, .f32⟩ : BufTy).Contents (Elt F)),
    reshape main_v3 main_v4 (rfl : (.f32 : EltTy) = .f32) shapeCasts_S16384x1_S16384,
    unary main_v4 main_v5 (fptosi 32 : (⟨S16384, .f32⟩ : BufTy).Contents (Elt F) → (⟨S16384, .i32⟩ : BufTy).Contents (Elt F)),
    unary main_arg0 main_v6 ((extractStridedSlice S16384x26 ![0, 2] · slices_S16384x28_S16384x26_0_2) : (⟨S16384x28, .f32⟩ : BufTy).Contents (Elt F) → (⟨S16384x26, .f32⟩ : BufTy).Contents (Elt F)) ]

/-- After it: the weights transposed and cut, the biases as rows. -/
def ops2 : List (HloOp τ sig (Elt F)) :=
  [ unary main_arg3 main_v8 ((transpose S58x64 [1, 0] · transposes_S64x58_S58x64_1_0) : (⟨S64x58, .f32⟩ : BufTy).Contents (Elt F) → (⟨S58x64, .f32⟩ : BufTy).Contents (Elt F)),
    unary main_v8 main_v9 ((extractStridedSlice S16x64 ![0, 0] · slices_S58x64_S16x64_0_0) : (⟨S58x64, .f32⟩ : BufTy).Contents (Elt F) → (⟨S16x64, .f32⟩ : BufTy).Contents (Elt F)),
    unary main_v8 main_v10 ((extractStridedSlice S16x64 ![16, 0] · slices_S58x64_S16x64_16_0) : (⟨S58x64, .f32⟩ : BufTy).Contents (Elt F) → (⟨S16x64, .f32⟩ : BufTy).Contents (Elt F)),
    unary main_v8 main_v11 ((extractStridedSlice S26x64 ![32, 0] · slices_S58x64_S26x64_32_0) : (⟨S58x64, .f32⟩ : BufTy).Contents (Elt F) → (⟨S26x64, .f32⟩ : BufTy).Contents (Elt F)),
    reshape main_arg4 main_v12 (rfl : (.f32 : EltTy) = .f32) shapeCasts_S64_S1x64,
    unary main_arg5 main_v13 ((transpose S64x32 [1, 0] · transposes_S32x64_S64x32_1_0) : (⟨S32x64, .f32⟩ : BufTy).Contents (Elt F) → (⟨S64x32, .f32⟩ : BufTy).Contents (Elt F)),
    reshape main_arg6 main_v14 (rfl : (.f32 : EltTy) = .f32) shapeCasts_S32_S1x32,
    unary main_arg7 main_v15 ((transpose S32x16 [1, 0] · transposes_S16x32_S32x16_1_0) : (⟨S16x32, .f32⟩ : BufTy).Contents (Elt F) → (⟨S32x16, .f32⟩ : BufTy).Contents (Elt F)),
    reshape main_arg8 main_v16 (rfl : (.f32 : EltTy) = .f32) shapeCasts_S16_S1x16,
    reshape main_arg10 main_v17 (rfl : (.f32 : EltTy) = .f32) shapeCasts_S1_S1x1 ]

theorem ops1_sub : (ops1 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub ..⟩
theorem ops2_sub : (ops2 : List (HloOp τ sig (Elt F))).Forall fun op => op.bufs ⊆ tcRefs τ sig :=
  ⟨unary_bufs_sub .., unary_bufs_sub .., unary_bufs_sub .., unary_bufs_sub .., reshape_bufs_sub .., unary_bufs_sub .., reshape_bufs_sub .., unary_bufs_sub .., reshape_bufs_sub .., reshape_bufs_sub ..⟩

theorem ops1_fresh : (ops1 : List (HloOp τ sig (Elt F))).Forall fun op => op.fresh = ∅ := forall_fresh_of_map rfl
theorem ops2_fresh : (ops2 : List (HloOp τ sig (Elt F))).Forall fun op => op.fresh = ∅ := forall_fresh_of_map rfl

/-- The buffers each stretch writes. -/
abbrev wr1 : List (Ref sig .tc) := [main_v0, main_v1, main_v2, main_v3, main_v4, main_v5, main_v6]
abbrev wr2 : List (Ref sig .tc) := [main_v8, main_v9, main_v10, main_v11, main_v12, main_v13, main_v14, main_v15, main_v16, main_v17]

theorem ops1_writes : (ops1 : List (HloOp τ sig (Elt F))).Forall fun op => op.writes ⊆ (wr1.map (Proc.devRef (τ := τ) .tc)).toFinset :=
  forall_writes_sub_of_map rfl
theorem ops2_writes : (ops2 : List (HloOp τ sig (Elt F))).Forall fun op => op.writes ⊆ (wr2.map (Proc.devRef (τ := τ) .tc)).toFinset :=
  forall_writes_sub_of_map rfl

theorem main_eq (d : Dev nD) : main (F := F) d
    = (seq ops1 >>= fun _ => (K (F := F)).run d 0 >>= fun _ => seq ops2 >>= fun _ =>
        Prog.lift (.customCall (SparseCore.inner (Pipeline.entry 0)) ()) >>= fun _ => pure ⟨⟩) := rfl

/-! ## The buffers' contents through @main -/

variable (m : (ℓ : Loc nD τ sig) → Buf (Elt F) ℓ)

/-- Before the call, after it, at the region's entry, at the end. -/
def V1 (d : Dev nD) : Valuation τ sig (Elt F) := after ops1 (fun b => m (d, b))
abbrev X1 : (ℓ : Loc nD τ sig) → Buf (Elt F) ℓ := fun ℓ => V1 m ℓ.1 ℓ.2
def V2 (d : Dev nD) : Valuation τ sig (Elt F) :=
  Function.update (Function.update (V1 m d) (Proc.devRef .tc main_v7_0) (resA (X1 m) d)) (Proc.devRef .tc main_v7_1) (resB (X1 m) d)
def V3 (d : Dev nD) : Valuation τ sig (Elt F) := after ops2 (V2 m d)
def V4 (d : Dev nD) : Valuation τ sig (Elt F) := afterMlp (V3 m) d

/-- The six arrays of the call. -/
abbrev six : Finset (DevRef τ sig) :=
  {Proc.devRef .tc main_v2, Proc.devRef .tc main_v5, Proc.devRef .tc main_arg1, Proc.devRef .tc main_arg2,
    Proc.devRef .tc main_v7_0, Proc.devRef .tc main_v7_1}

theorem six_sub : six ⊆ Pipeline.ucRefs τ sig := by decide

theorem held_six (d : Dev nD) (V : Valuation τ sig (Elt F)) :
    (held (d.tc : Thread nD τ) six V : sProp 𝕄)
      = iprop((iaLoc d ↦{fullShare} V (Proc.devRef .tc main_v2)) ∗ (ibLoc d ↦{fullShare} V (Proc.devRef .tc main_v5))
        ∗ (taLoc d ↦{fullShare} V (Proc.devRef .tc main_arg1)) ∗ (tbLoc d ↦{fullShare} V (Proc.devRef .tc main_arg2))
        ∗ (oaLoc d ↦{fullShare} V (Proc.devRef .tc main_v7_0)) ∗ (obLoc d ↦{fullShare} V (Proc.devRef .tc main_v7_1))) := by
  unfold held six
  rw [SparseCore.bigSep_insert' (by decide), SparseCore.bigSep_insert' (by decide), SparseCore.bigSep_insert' (by decide),
    SparseCore.bigSep_insert' (by decide), SparseCore.bigSep_insert' (by decide), bigSep_singleton]

/-- The call's entry, from the buffers; -/
theorem call_entry (d : Dev nD) :
    (held (d.tc : Thread nD τ) (Pipeline.ucRefs τ sig) (V1 m d) : sProp 𝕄)
      = iprop(wholeRes (X1 m) d (X1 m (oaLoc d)) (X1 m (obLoc d)) ∗ held (d.tc : Thread nD τ) (Pipeline.ucRefs τ sig \ six) (V1 m d)) := by
  rw [held_sub_split (d.tc : Thread nD τ) six_sub, held_six]

theorem V2_off (d : Dev nD) (b : DevRef τ sig) (h0 : b ≠ Proc.devRef .tc main_v7_0) (h1 : b ≠ Proc.devRef .tc main_v7_1) :
    V2 m d b = V1 m d b := by
  unfold V2; rw [Function.update_of_ne h1, Function.update_of_ne h0]
theorem V2_a (d : Dev nD) : V2 m d (Proc.devRef .tc main_v7_0) = resA (X1 m) d := by
  unfold V2; rw [Function.update_of_ne (by decide), Function.update_self]
theorem V2_b (d : Dev nD) : V2 m d (Proc.devRef .tc main_v7_1) = resB (X1 m) d := by
  unfold V2; rw [Function.update_self]

/-- and its exit, back among them. -/
theorem call_exit (d : Dev nD) :
    (held (d.tc : Thread nD τ) (Pipeline.ucRefs τ sig) (V2 m d) : sProp 𝕄)
      = iprop(wholeRes (X1 m) d (resA (X1 m) d) (resB (X1 m) d) ∗ held (d.tc : Thread nD τ) (Pipeline.ucRefs τ sig \ six) (V1 m d)) := by
  rw [held_sub_split (d.tc : Thread nD τ) six_sub, held_six, V2_a, V2_b, V2_off m d (Proc.devRef .tc main_v2) (by decide) (by decide),
    V2_off m d (Proc.devRef .tc main_v5) (by decide) (by decide), V2_off m d (Proc.devRef .tc main_arg1) (by decide) (by decide),
    V2_off m d (Proc.devRef .tc main_arg2) (by decide) (by decide),
    held_congr (d.tc : Thread nD τ) (S := Pipeline.ucRefs τ sig \ six) (V := V2 m d) (V' := V1 m d) fun b hb =>
      V2_off m d b (fun e => (Finset.mem_sdiff.mp hb).2 (by subst e; decide)) (fun e => (Finset.mem_sdiff.mp hb).2 (by subst e; decide))]

/-! ## @main -/

variable (ρ : Dev nD → PrngReg)

/-- The pipeline's rounds on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)
abbrev FIN (d : Dev nD) : sProp 𝕄 := held (d.tc : Thread nD τ) (Pipeline.ucRefs τ sig) (V4 m d)

theorem below_any (d : Dev nD) (W : Waits sig (HIx 1)) : (K (F := F)).WBelow (SparseCore.T d) W (8 * (1 : ℕ)) := by
  rintro ⟨s, _ | q⟩ _
  · exact Nat.zero_le _
  · refine ((K (F := F)).lev_some_le _ q).trans ?_
    have : q.val = 0 := by omega
    omega

/-- After its one call the TensorCore owes nothing more: what it owes can be taken out and put back with any recorded waits. -/
theorem tcSt_done (d : Dev nD) :
    ((K (F := F)).tcSt EH d ((0 : Fin 1).val + 1) : sProp 𝕄)
      ⊢ iprop((∃ W, owes (d.tc : Thread nD τ) 0 W) ∗ ((∃ W, owes (d.tc : Thread nD τ) 0 W) -∗ (K (F := F)).tcSt EH d 1)) := by
  rw [show (0 : Fin 1).val + 1 = 1 from rfl]
  unfold SparseCore.Cfg.tcSt
  rw [(K (F := F)).Otc_end d (le_refl 1)]
  iintro ⟨⟨%W, -, HO⟩, Hst⟩
  isplitl [HO]
  · iexists W
    iexact HO
  iintro ⟨%W', HO⟩
  isplitl [HO]
  · iexists W'
    isplitr; · ipureintro; exact below_any d W'
    iexact HO
  iexact Hst

theorem hmain (κ : GSem nD τ sig → ℕ) (d : Dev nD) :
    iprop((K (F := F)).ctx EH (P (X1 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
    = held (d.tc : Thread nD τ) (Pipeline.ucRefs τ sig) (fun b => m (d, b)) from Pipeline.unscopedBufs_held d (fun b => m (d, b))]
  iintro ⟨#Hctx, Hst, ⟨Hb, Hh, Hts, -⟩, Hg⟩
  iapply (wp_seq 𝒱 none Set.univ d (Pipeline.ucRefs τ sig) _ ops1 (fun op h => Pipeline.sub_ucRefs op (List.forall_iff_forall_mem.mp ops1_sub op h))
    (List.forall_iff_forall_mem.mp ops1_fresh) (fun b => m (d, b))) $$ [Hb Hh]
  · isplitl [Hb] <;> iassumption
  iintro ⟨Hb, Hh⟩
  ihave Hh' := (Entails.of_eq (show (held (d.tc : Thread nD τ) (Pipeline.ucRefs τ sig) (after ops1 fun b => m (d, b)) : sProp 𝕄) = _ from call_entry m d)) $$ Hh
  icases Hh' with ⟨Hw, Hr⟩
  rw [wp_bind]
  iapply ((K (F := F)).wp_run (D (F := F)) 𝒱 (EH := EH) (P := P (X1 m)) κ d 0)
  isplitr; · iexact Hctx
  isplitl [Hst]; · iexact Hst
  isplitl [Hw]; · rw [st0_eq]; iexact Hw
  iintro ⟨Hst, Hdn⟩
  ihave Hdn := (Entails.of_eq (dn0_eq (X1 m) d)) $$ Hdn
  ihave Hh := (Entails.of_eq (call_exit m d).symm) $$ [Hdn Hr]
  · isplitl [Hdn] <;> iassumption
  iapply (wp_seq 𝒱 none Set.univ d (Pipeline.ucRefs τ sig) _ ops2 (fun op h => Pipeline.sub_ucRefs op (List.forall_iff_forall_mem.mp ops2_sub op h))
    (List.forall_iff_forall_mem.mp ops2_fresh) (V2 m d)) $$ [Hb Hh]
  · isplitl [Hb] <;> iassumption
  iintro ⟨Hb, Hh⟩
  rw [wp_bind]
  ihave Hst := (tcSt_done (F := F) d) $$ Hst
  icases Hst with ⟨HO, Hst⟩
  ihave Hlev := (SparseCore.Cfg.ctx_levAts κ) $$ Hctx
  icases Hg with ⟨Hg1, Hg2⟩
  ihave Hh := (Entails.of_eq (show (held (d.tc : Thread nD τ) (Pipeline.ucRefs τ sig) (after ops2 (V2 m d)) : sProp 𝕄)
    = held (d.tc : Thread nD τ) (Pipeline.ucRefs τ sig) (V3 m d) from rfl)) $$ Hh
  iapply (mlp_region (V3 m) d _)
  isplitl [Hst Hts]
  · iintro ⟨Hb, Hh, HO⟩
    rw [wp_pure]
    imodintro
    imodintro
    isplitl [Hst HO]
    · iapply Hst $$ HO
    isplitl [Hh]; · iexact Hh
    isplitl [Hb] <;> iassumption
  isplitl [Hb]; · iexact Hb
  isplitl [Hh]; · iexact Hh
  isplitl [HO]; · iexact HO
  isplitl [Hlev]; · iexact Hlev
  isplitl [Hg1] <;> iassumption

/-! ## The program's run -/

def u₀ : UU := (initOf (K (F := F)).hsCells (K (F := F)).hsToks,
  initOf (Pipeline.cells (Pipeline.pin (pcfgs (F := F)) adm) pin_inj) (Pipeline.launchToks (Pipeline.pin (pcfgs (F := F)) adm) pin_inj), 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (X1 m)).x q thr) := by
  unfold u₀
  iintro Hu
  ihave H := (ownU_pair _ _) $$ Hu
  icases H with ⟨HH, HP⟩
  ihave H := (own_pair_emb embR _ (1 : Counters)) $$ HP
  icases H with ⟨HP, -⟩
  ihave H := (Pipeline.fund_ghost (Pipeline.pin (pcfgs (F := F)) adm) EP pin_inj) $$ HP
  imod H with ⟨Hc, Ht⟩
  imodintro
  isplitl [HH]; · iexact HH
  isplitl [Hc Ht]
  · unfold G
    rw [bigSep_sep']
    isplitl [Hc]
    · iapply (Entails.of_eq (bigSep_congr fun c _ => bigSep_univ_of_subsingleton (0 : Fin 1))) $$ Hc
    · iapply (Entails.of_eq (bigSep_congr fun c _ => bigSep_univ_of_subsingleton (0 : Fin 1))) $$ Ht
  rw [show (bigSep Finset.univ fun thr : Thread nD τ => bigSep Finset.univ fun q : Fin 1 => (P (X1 m)).x q thr)
    = bigSep Finset.univ fun _ : Thread nD τ => (iprop(emp) : sProp 𝕄) from
    bigSep_congr fun _ _ => bigSep_univ_of_subsingleton (0 : Fin 1), show (bigSep Finset.univ fun _ : Thread nD τ => (iprop(emp) : sProp 𝕄)) = iprop(emp) from bigSep_emp_const _]
  iempintro

def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  unfold FIN held
  iintro H
  ihave H := (pointsTo_read_all (Pipeline.ucRefs τ sig) (fun b => (d, b)) (V4 m d) s') $$ H
  icases H with ⟨H, -⟩
  iexact H

/-- The run, over whatever the arguments hold as long as the call's ids name rows of the tables. -/
theorem run_all [∀ e, Nonempty (Elt F e)] (hpre : PreOK (X1 m)) :
    θ_run (defs (F := F)) (threads (F := F)) ⟨m, fun _ => 0, ρ⟩
      (fun r => (∀ (d : Dev nD), ∀ b ∈ Pipeline.ucRefs τ sig, r.2.mem (d, b) = V4 m d b) ∧ r.2.sem = fun _ => 0) :=
  SparseCore.Cfg.θ_run_sc_quiescent (K := K (F := F)) (D := D (F := F)) (𝒱 := 𝒱) (EH := EH) (P := P (X1 m)) (A := ∅) facts v₀
    (fun q hq => match q with | 0 => nomatch hq)
    (fun q _ => match q with | 0 => tileObl (X1 m) facts hpre)
    (fun q _ => match q with | 0 => SparseCore.Cfg.VecSplit.of_plain (vecSplit (X1 m)))
    m ρ main (fun d => G d) (FIN m) (u₀ (F := F)) (sep_elim_left.trans (hu₀ m)) (hmain m ρ) (fq m) (hfin m) _ (fun _ h hz => ⟨h, hz⟩)

/-! ## What the buffers hold at the end -/

/-- What @main leaves in its result. -/
def mainOut (d : Dev nD) : Buf (Elt F) ((d.tc : Thread nD τ).loc main_v18) := V4 m d (Proc.devRef .tc main_v18)

theorem V3_keeps (d : Dev nD) (r : Ref sig .tc) (h : r ∉ wr2) (h0 : r ≠ main_v7_0) (h1 : r ≠ main_v7_1) (h2 : r ∉ wr1) :
    V3 m d (Proc.devRef .tc r) = m (d, Proc.devRef .tc r) := by
  unfold V3
  rw [after_of_writes_sub ops2 _ ops2_writes h, V2_off m d _ (fun e => h0 (Proc.devRef_injective _ e)) fun e => h1 (Proc.devRef_injective _ e)]
  exact after_of_writes_sub ops1 _ ops1_writes h2

/-- An argument ends as it was launched. -/
theorem V4_arg (d : Dev nD) (r : Ref sig .tc) (h : r ∉ wr2) (h0 : r ≠ main_v7_0) (h1 : r ≠ main_v7_1) (h2 : r ∉ wr1)
    (h3 : ∀ w, Pipeline.arrRef spec1 w = r → (cfg1.win w).isOut = false) :
    V4 m d (Proc.devRef .tc r) = m (d, Proc.devRef .tc r) := by
  rw [← V3_keeps m d r h h0 h1 h2]
  exact Pipeline.afterRegion_keeps (mdat (V3 m) d) (V3 m d) winFacts1.arr_inj (fun w => mdat_A (V3 m) d w) r h3

end Cert.Proof.RunKernelIdeal
-- ==== Proof.FrameKernelIdeal.lean ====
/-
  The kernel's frame: under the precondition the program runs to the end without a fault, its arguments are unchanged and
  every semaphore counter is back at zero.
-/
module

public import proofs.«01_k».proof.Defs
public import proofs.«01_k».proof.Proof.MainKernelIdeal
public import proofs.«01_k».proof.Proof.Ranges

@[expose] public section

set_option maxRecDepth 16384

noncomputable section

namespace Cert.Proof.RunKernelIdeal

open Cert.KernelIdeal Cert.KernelIdeal.Gen
open Idealize.ShloMosaic Idealize.ShloMosaic.TcCoe Idealize.ShloMosaic.Tactic Idealize.ShloMosaic.StableHlo Idealize.SL.Sem

variable {F : FTy → Type} [FloatOps F]
variable (m : (ℓ : Loc nD τ sig) → Buf (Elt F) ℓ)

/-- The ids of each side, as the host computes them. -/
theorem V1_ids_a (d : Dev nD) : V1 m d (Proc.devRef .tc main_v2)
    = fptosi 32 (shapeCast S16384 (extractStridedSlice S16384x1 ![0, 0] (m (d, Proc.devRef .tc main_arg0)) slices_S16384x28_S16384x1_0_0) shapeCasts_S16384x1_S16384) := by
  unfold V1 ops1
  after_results_simp
  rfl
theorem V1_ids_b (d : Dev nD) : V1 m d (Proc.devRef .tc main_v5)
    = fptosi 32 (shapeCast S16384 (extractStridedSlice S16384x1 ![0, 1] (m (d, Proc.devRef .tc main_arg0)) slices_S16384x28_S16384x1_0_1) shapeCasts_S16384x1_S16384) := by
  unfold V1 ops1
  after_results_simp
  rfl

/-- The precondition gives what the SparseCore call asks of its ids. -/
theorem pre_ok (h : ∀ c : Dev nD, Cert.Pre_in_range.fn (F := F) (m (c, Proc.devRef .tc main_arg0)) (m (c, Proc.devRef .tc main_arg1))
      (m (c, Proc.devRef .tc main_arg2)) (m (c, Proc.devRef .tc main_arg3)) (m (c, Proc.devRef .tc main_arg4)) (m (c, Proc.devRef .tc main_arg5))
      (m (c, Proc.devRef .tc main_arg6)) (m (c, Proc.devRef .tc main_arg7)) (m (c, Proc.devRef .tc main_arg8)) (m (c, Proc.devRef .tc main_arg9))
      (m (c, Proc.devRef .tc main_arg10)) = fun _ => 1#1) : PreOK (X1 m) := by
  intro d j
  have e := Ranges.ids_ok _ _ _ _ _ _ _ _ _ _ _ (h d) j
  show ((V1 m d (Proc.devRef .tc main_v2) : S16384.Idx → BitVec 32) j).toNat < 100000 ∧ ((V1 m d (Proc.devRef .tc main_v5) : S16384.Idx → BitVec 32) j).toNat < 100000
  rw [V1_ids_a, V1_ids_b]
  exact e

/-- Every argument ends as launched. -/
theorem args_kept (d : Dev nD) (s : MemSt nD τ sig (Elt F)) (h : ∀ b ∈ Pipeline.ucRefs τ sig, s.mem (d, b) = V4 m d b)
    (r : Ref sig .tc) (hr : r ∈ [main_arg0, main_arg1, main_arg2, main_arg3, main_arg4, main_arg5, main_arg6, main_arg7, main_arg8, main_arg9, main_arg10]) :
    s.mem ((d.tc : Thread nD τ).loc r) = m ((d.tc : Thread nD τ).loc r) := by
  refine (h _ (Pipeline.devRef_mem_ucRefs (show r.isScoped = false by revert r; decide))).trans (V4_arg m d r ?_ ?_ ?_ ?_ ?_)
  all_goals
    revert r
    decide

end Cert.Proof.RunKernelIdeal

namespace Cert.Proof.RunKernelIdeal

open Cert.KernelIdeal Cert.KernelIdeal.Gen
open Idealize.ShloMosaic Idealize.ShloMosaic.TcCoe Idealize.SL.Sem

theorem frame : Cert.quiescent_KernelIdeal := fun m ρ hpre => by
  refine (θ_run Cert.KernelIdeal.defs _ _).mono (fun r h => ⟨fun c => ?_, h.2⟩) (run_all m ρ (pre_ok m hpre))
  have k := args_kept m c r.2 (h.1 c)
  exact ⟨k _ (by decide), k _ (by decide), k _ (by decide), k _ (by decide), k _ (by decide), k _ (by decide),
    k _ (by decide), k _ (by decide), k _ (by decide), k _ (by decide), k _ (by decide)⟩

end Cert.Proof.RunKernelIdeal

end
-- ==== Proof.Score.lean ====
/-
  The mathematics both programs are shown to compute: the score of one row, from the two table rows its ids pick, its numeric
  features and the weights, in extended reals.
-/
module

public import Idealize.ShloMosaic.PureOps.Ideal
public import Idealize.ShloMosaic.Lib.Pointwise

@[expose] public section

noncomputable section

namespace Cert.Proof.Score

open Idealize.ShloMosaic

/-- An array of `r` rows and `c` columns of extended reals. -/
abbrev Mat (r c : Nat) : Type := Vec Ideal ⟨2, ![r, c]⟩ .f32
/-- A vector of `n` extended reals. -/
abbrev Line (n : Nat) : Type := Vec Ideal ⟨1, ![n]⟩ .f32

/-- The first layer, read in the three parts its input is made of: columns 0–15 of the weights meet the first table's row,
    columns 16–31 the second table's, columns 32–57 the numeric features. -/
def first (ea eb : Fin 16 → EReal) (nu : Fin 26 → EReal) (w : Mat 64 58) (b : Line 64) (j : Fin 64) : EReal :=
  max (∑ k : Fin 16, ea k * w (ix2 j ⟨k.val, by omega⟩) + ∑ k : Fin 16, eb k * w (ix2 j ⟨16 + k.val, by omega⟩)
    + ∑ k : Fin 26, nu k * w (ix2 j ⟨32 + k.val, by omega⟩) + b (ix1 j)) 0

/-- A later layer: weights, bias, and what is below zero put to zero. -/
def layer {n p : Nat} (h : Fin n → EReal) (w : Mat p n) (b : Line p) (j : Fin p) : EReal :=
  max (∑ k, h k * w (ix2 j k) + b (ix1 j)) 0

/-- The score of a row. -/
def score (ea eb : Fin 16 → EReal) (nu : Fin 26 → EReal) (w1 : Mat 64 58) (b1 : Line 64) (w2 : Mat 32 64) (b2 : Line 32)
    (w3 : Mat 16 32) (b3 : Line 16) (wo : Mat 1 16) (bo : Line 1) : EReal :=
  Ideal.div 1 (1 + Ideal.exp (-(∑ k, layer (layer (first ea eb nu w1 b1) w2 b2) w3 b3 k * wo (ix2 0 k) + bo (ix1 0))))

end Cert.Proof.Score

end
-- ==== Proof.ValueKernelIdeal.lean ====
/-
  The kernel's value: each row of its result is the score of that row, from the table rows that the SparseCore call gathered.
-/
module

public import proofs.«01_k».proof.Proof.FrameKernelIdeal
public import proofs.«01_k».proof.Proof.Score
public import Idealize.ShloMosaic.Lib.Pointwise
public import Idealize.ShloMosaic.Lib.IdealHost

@[expose] public section

set_option maxRecDepth 16384

noncomputable section

namespace Cert.Proof.RunKernelIdeal

open Cert.KernelIdeal Cert.KernelIdeal.Gen
open Idealize.ShloMosaic Idealize.ShloMosaic.TcCoe Idealize.ShloMosaic.Tactic Idealize.ShloMosaic.StableHlo Idealize.SL.Sem

/-! ## One row of the MLP's body -/

/-- A row of the body's block is the score of that row, when its weights are the program's, transposed and cut. -/
theorem mlp_row {w1 : Score.Mat 64 58} {b1 : Score.Line 64} {w2 : Score.Mat 32 64} {b2 : Score.Line 32} {w3 : Score.Mat 16 32}
    {b3 : Score.Line 16} {wo : Score.Mat 1 16} {bo : Score.Line 1}
    {x0 x1 : Vec Ideal S2048x16 .f32} {x2 : Vec Ideal S2048x26 .f32} {x3 x4 : Vec Ideal S16x64 .f32} {x5 : Vec Ideal S26x64 .f32}
    {x6 : Vec Ideal S1x64 .f32} {x7 : Vec Ideal S64x32 .f32} {x8 : Vec Ideal S1x32 .f32} {x9 : Vec Ideal S32x16 .f32}
    {x10 x11 : Vec Ideal S1x16 .f32} {x12 : Vec Ideal S1x1 .f32}
    (h3 : ∀ (k : Fin 16) (j : Fin 64), x3 (ix2 k j) = w1 (ix2 j ⟨k.val, by omega⟩))
    (h4 : ∀ (k : Fin 16) (j : Fin 64), x4 (ix2 k j) = w1 (ix2 j ⟨16 + k.val, by omega⟩))
    (h5 : ∀ (k : Fin 26) (j : Fin 64), x5 (ix2 k j) = w1 (ix2 j ⟨32 + k.val, by omega⟩))
    (h6 : ∀ j : Fin 64, x6 (ix2 0 j) = b1 (ix1 j))
    (h7 : ∀ (k : Fin 64) (j : Fin 32), x7 (ix2 k j) = w2 (ix2 j k)) (h8 : ∀ j : Fin 32, x8 (ix2 0 j) = b2 (ix1 j))
    (h9 : ∀ (k : Fin 32) (j : Fin 16), x9 (ix2 k j) = w3 (ix2 j k)) (h10 : ∀ j : Fin 16, x10 (ix2 0 j) = b3 (ix1 j))
    (h11 : ∀ k : Fin 16, x11 (ix2 0 k) = wo (ix2 0 k)) (h12 : x12 (ix2 0 0) = bo (ix1 0)) (p : Fin 2048) :
    mlpOut x0 x1 x2 x3 x4 x5 x6 x7 x8 x9 x10 x11 x12 (ix2 p 0)
      = Score.score (fun k => x0 (ix2 p k)) (fun k => x1 (ix2 p k)) (fun k => x2 (ix2 p k)) w1 b1 w2 b2 w3 b3 wo bo := by
  unfold mlpOut
  pointwise [k1_pay1, k1_pay2, Score.score, Score.layer, Score.first]
  simp only [h3, h4, h5, h6, h7, h8, h9, h10, h11, h12, zero_sub]

/-! ## The blocks the body reads -/

section Blocks

variable {F : FTy → Type} [FloatOps F]
variable (V : Dev nD → Valuation τ sig (Elt F))

/-- The windows that move with the step, and those that stay: which block each step reads. -/
theorem moving (t : Fin cfg1.N) :
    win1_0.index t = ![t.val, 0] ∧ win1_1.index t = ![t.val, 0] ∧ win1_2.index t = ![t.val, 0] ∧ win1_13.index t = ![t.val, 0] := by
  revert t; decide +kernel
theorem staying (t : Fin cfg1.N) :
    win1_3.index t = ![0, 0] ∧ win1_4.index t = ![0, 0] ∧ win1_5.index t = ![0, 0] ∧ win1_6.index t = ![0, 0] ∧ win1_7.index t = ![0, 0]
      ∧ win1_8.index t = ![0, 0] ∧ win1_9.index t = ![0, 0] ∧ win1_10.index t = ![0, 0] ∧ win1_11.index t = ![0, 0] ∧ win1_12.index t = ![0, 0] := by
  revert t; decide +kernel

theorem step_lt (t : Fin cfg1.N) : t.val < 8 := Nat.lt_of_lt_of_eq t.isLt (by decide)

/-- The array's row that row `p` of step `t`'s block is. -/
def rowAt (t : Fin cfg1.N) (p : Fin 2048) : Fin 16384 := ⟨t.val * 2048 + p.val, by have := step_lt t; omega⟩

/-- An index reached from block 0 at the block's own index is that index. -/
theorem at_whole {n0 n1 : Nat} {ix : Fin 2 → Nat} (e : ix = ![0, 0]) (j i : (⟨2, ![n0, n1]⟩ : Shape).Idx)
    (h0 : (j 0).val = ix 0 * n0 + 1 * (i 0).val) (h1 : (j 1).val = ix 1 * n1 + 1 * (i 1).val) : j = i := by
  subst e
  funext a
  refine Fin.ext ?_
  match a with
  | ⟨0, _⟩ => exact h0.trans (by simp)
  | ⟨1, _⟩ => exact h1.trans (by simp)

/-- An index reached from block `T` of rows is that row, counted through the blocks before it. -/
theorem at_rows {N n0 n1 T : Nat} {ix : Fin 2 → Nat} (e : ix = ![T, 0]) (j : (⟨2, ![N, n1]⟩ : Shape).Idx) (p : Fin n0) (k : Fin n1) (h : T * n0 + p.val < N)
    (h0 : (j 0).val = ix 0 * n0 + 1 * p.val) (h1 : (j 1).val = ix 1 * n1 + 1 * k.val) : j = ix2 ⟨T * n0 + p.val, h⟩ k := by
  subst e
  funext a
  refine Fin.ext ?_
  match a with
  | ⟨0, _⟩ => exact h0.trans (by simp)
  | ⟨1, _⟩ => exact h1.trans (by simp)

variable (c : Dev nD) (t : Fin cfg1.N)

theorem blk_a (p : Fin 2048) (k : Fin 16) :
    (iblk V c 0 t : S2048x16.Idx → Elt F .f32) (ix2 p k) = (V c (Proc.devRef .tc main_v7_0) : S16384x16.Idx → Elt F .f32) (ix2 (rowAt t p) k) :=
  congrArg (V c (Proc.devRef .tc main_v7_0) : S16384x16.Idx → Elt F .f32) (at_rows (moving t).1 _ p k _ rfl rfl)
theorem blk_b (p : Fin 2048) (k : Fin 16) :
    (iblk V c 1 t : S2048x16.Idx → Elt F .f32) (ix2 p k) = (V c (Proc.devRef .tc main_v7_1) : S16384x16.Idx → Elt F .f32) (ix2 (rowAt t p) k) :=
  congrArg (V c (Proc.devRef .tc main_v7_1) : S16384x16.Idx → Elt F .f32) (at_rows (moving t).2.1 _ p k _ rfl rfl)
theorem blk_n (p : Fin 2048) (k : Fin 26) :
    (iblk V c 2 t : S2048x26.Idx → Elt F .f32) (ix2 p k) = (V c (Proc.devRef .tc main_v6) : S16384x26.Idx → Elt F .f32) (ix2 (rowAt t p) k) :=
  congrArg (V c (Proc.devRef .tc main_v6) : S16384x26.Idx → Elt F .f32) (at_rows (moving t).2.2.1 _ p k _ rfl rfl)

theorem blk_3 : (iblk V c 3 t : S16x64.Idx → Elt F .f32) = V c (Proc.devRef .tc main_v9) :=
  funext fun i => congrArg (V c (Proc.devRef .tc main_v9) : S16x64.Idx → Elt F .f32) (at_whole (staying t).1 _ i rfl rfl)
theorem blk_4 : (iblk V c 4 t : S16x64.Idx → Elt F .f32) = V c (Proc.devRef .tc main_v10) :=
  funext fun i => congrArg (V c (Proc.devRef .tc main_v10) : S16x64.Idx → Elt F .f32) (at_whole (staying t).2.1 _ i rfl rfl)
theorem blk_5 : (iblk V c 5 t : S26x64.Idx → Elt F .f32) = V c (Proc.devRef .tc main_v11) :=
  funext fun i => congrArg (V c (Proc.devRef .tc main_v11) : S26x64.Idx → Elt F .f32) (at_whole (staying t).2.2.1 _ i rfl rfl)
theorem blk_6 : (iblk V c 6 t : S1x64.Idx → Elt F .f32) = V c (Proc.devRef .tc main_v12) :=
  funext fun i => congrArg (V c (Proc.devRef .tc main_v12) : S1x64.Idx → Elt F .f32) (at_whole (staying t).2.2.2.1 _ i rfl rfl)
theorem blk_7 : (iblk V c 7 t : S64x32.Idx → Elt F .f32) = V c (Proc.devRef .tc main_v13) :=
  funext fun i => congrArg (V c (Proc.devRef .tc main_v13) : S64x32.Idx → Elt F .f32) (at_whole (staying t).2.2.2.2.1 _ i rfl rfl)
theorem blk_8 : (iblk V c 8 t : S1x32.Idx → Elt F .f32) = V c (Proc.devRef .tc main_v14) :=
  funext fun i => congrArg (V c (Proc.devRef .tc main_v14) : S1x32.Idx → Elt F .f32) (at_whole (staying t).2.2.2.2.2.1 _ i rfl rfl)
theorem blk_9 : (iblk V c 9 t : S32x16.Idx → Elt F .f32) = V c (Proc.devRef .tc main_v15) :=
  funext fun i => congrArg (V c (Proc.devRef .tc main_v15) : S32x16.Idx → Elt F .f32) (at_whole (staying t).2.2.2.2.2.2.1 _ i rfl rfl)
theorem blk_10 : (iblk V c 10 t : S1x16.Idx → Elt F .f32) = V c (Proc.devRef .tc main_v16) :=
  funext fun i => congrArg (V c (Proc.devRef .tc main_v16) : S1x16.Idx → Elt F .f32) (at_whole (staying t).2.2.2.2.2.2.2.1 _ i rfl rfl)
theorem blk_11 : (iblk V c 11 t : S1x16.Idx → Elt F .f32) = V c (Proc.devRef .tc main_arg9) :=
  funext fun i => congrArg (V c (Proc.devRef .tc main_arg9) : S1x16.Idx → Elt F .f32) (at_whole (staying t).2.2.2.2.2.2.2.2.1 _ i rfl rfl)
theorem blk_12 : (iblk V c 12 t : S1x1.Idx → Elt F .f32) = V c (Proc.devRef .tc main_v17) :=
  funext fun i => congrArg (V c (Proc.devRef .tc main_v17) : S1x1.Idx → Elt F .f32) (at_whole (staying t).2.2.2.2.2.2.2.2.2 _ i rfl rfl)

end Blocks

/-! ## What the host operations leave in the body's operands -/

section Operands

variable (m : (ℓ : Loc nD τ sig) → Buf (Elt Ideal) ℓ) (d : Dev nD)

theorem V2_keeps (r : Ref sig .tc) (h0 : r ≠ main_v7_0) (h1 : r ≠ main_v7_1) (h2 : r ∉ wr1) : V2 m d (Proc.devRef .tc r) = m (d, Proc.devRef .tc r) := by
  rw [V2_off m d _ (fun e => h0 (Proc.devRef_injective _ e)) fun e => h1 (Proc.devRef_injective _ e)]
  exact after_of_writes_sub ops1 _ ops1_writes h2

/-- The first layer's three pieces of weights: the columns of the argument that meet each part of the input. -/
theorem weights_first :
    (∀ (k : Fin 16) (j : Fin 64), (V3 m d (Proc.devRef .tc main_v9) : S16x64.Idx → EReal) (ix2 k j)
        = (m (d, Proc.devRef .tc main_arg3) : S64x58.Idx → EReal) (ix2 j ⟨k.val, by omega⟩))
      ∧ (∀ (k : Fin 16) (j : Fin 64), (V3 m d (Proc.devRef .tc main_v10) : S16x64.Idx → EReal) (ix2 k j)
        = (m (d, Proc.devRef .tc main_arg3) : S64x58.Idx → EReal) (ix2 j ⟨16 + k.val, by omega⟩))
      ∧ ∀ (k : Fin 26) (j : Fin 64), (V3 m d (Proc.devRef .tc main_v11) : S26x64.Idx → EReal) (ix2 k j)
        = (m (d, Proc.devRef .tc main_arg3) : S64x58.Idx → EReal) (ix2 j ⟨32 + k.val, by omega⟩) := by
  have e := V2_keeps m d main_arg3 (by decide) (by decide) (by decide)
  refine ⟨fun k j => ?_, fun k j => ?_, fun k j => ?_⟩ <;>
    (unfold V3 ops2; after_results_simp; rw [e]; pointwise)

/-- The later layers' weights, transposed. -/
theorem weights_later :
    (∀ (k : Fin 64) (j : Fin 32), (V3 m d (Proc.devRef .tc main_v13) : S64x32.Idx → EReal) (ix2 k j)
        = (m (d, Proc.devRef .tc main_arg5) : S32x64.Idx → EReal) (ix2 j k))
      ∧ (∀ (k : Fin 32) (j : Fin 16), (V3 m d (Proc.devRef .tc main_v15) : S32x16.Idx → EReal) (ix2 k j)
        = (m (d, Proc.devRef .tc main_arg7) : S16x32.Idx → EReal) (ix2 j k))
      ∧ V3 m d (Proc.devRef .tc main_arg9) = m (d, Proc.devRef .tc main_arg9) := by
  have e5 := V2_keeps m d main_arg5 (by decide) (by decide) (by decide)
  have e7 := V2_keeps m d main_arg7 (by decide) (by decide) (by decide)
  refine ⟨fun k j => ?_, fun k j => ?_, V3_keeps m d main_arg9 (by decide) (by decide) (by decide) (by decide)⟩ <;>
    (unfold V3 ops2; after_results_simp; simp only [e5, e7]; pointwise)

/-- The biases, as rows. -/
theorem biases :
    (∀ j : Fin 64, (V3 m d (Proc.devRef .tc main_v12) : S1x64.Idx → EReal) (ix2 0 j) = (m (d, Proc.devRef .tc main_arg4) : S64.Idx → EReal) (ix1 j))
      ∧ (∀ j : Fin 32, (V3 m d (Proc.devRef .tc main_v14) : S1x32.Idx → EReal) (ix2 0 j) = (m (d, Proc.devRef .tc main_arg6) : S32.Idx → EReal) (ix1 j))
      ∧ (∀ j : Fin 16, (V3 m d (Proc.devRef .tc main_v16) : S1x16.Idx → EReal) (ix2 0 j) = (m (d, Proc.devRef .tc main_arg8) : S16.Idx → EReal) (ix1 j))
      ∧ (V3 m d (Proc.devRef .tc main_v17) : S1x1.Idx → EReal) (ix2 0 0) = (m (d, Proc.devRef .tc main_arg10) : S1.Idx → EReal) (ix1 0) := by
  have e4 := V2_keeps m d main_arg4 (by decide) (by decide) (by decide)
  have e6 := V2_keeps m d main_arg6 (by decide) (by decide) (by decide)
  have e8 := V2_keeps m d main_arg8 (by decide) (by decide) (by decide)
  have e10 := V2_keeps m d main_arg10 (by decide) (by decide) (by decide)
  refine ⟨fun j => ?_, fun j => ?_, fun j => ?_, ?_⟩ <;>
    (unfold V3 ops2; after_results_simp; simp only [e4, e6, e8, e10]; pointwise)

/-- The numeric features: the argument's columns from 2 on. -/
theorem numeric (r : Fin 16384) (k : Fin 26) : (V3 m d (Proc.devRef .tc main_v6) : S16384x26.Idx → EReal) (ix2 r k)
    = (m (d, Proc.devRef .tc main_arg0) : S16384x28.Idx → EReal) (ix2 r ⟨2 + k.val, by omega⟩) := by
  have e : V3 m d (Proc.devRef .tc main_v6) = V1 m d (Proc.devRef .tc main_v6) := by
    unfold V3
    rw [after_of_writes_sub ops2 _ ops2_writes (by decide), V2_off m d _ (by decide) (by decide)]
  rw [e]
  unfold V1 ops1
  after_results_simp
  pointwise

/-- The two gathered arrays, which nothing writes between the call and the MLP. -/
theorem gathered :
    V3 m d (Proc.devRef .tc main_v7_0) = resA (X1 m) d ∧ V3 m d (Proc.devRef .tc main_v7_1) = resB (X1 m) d := by
  unfold V3
  rw [after_of_writes_sub ops2 _ ops2_writes (by decide), after_of_writes_sub ops2 _ ops2_writes (by decide), V2_a, V2_b]
  exact ⟨rfl, rfl⟩

/-- The tables are as launched when the call reads them. -/
theorem V1_keeps (r : Ref sig .tc) (h : r ∉ wr1) : V1 m d (Proc.devRef .tc r) = m (d, Proc.devRef .tc r) :=
  after_of_writes_sub ops1 _ ops1_writes h

/-- A row of a gathered array is the table's row that the id names. -/
theorem pick_row (tab : S100000x16.Idx → EReal) (ids : S16384.Idx → BitVec 32) (r : Fin 16384) (k : Fin 16) (h : (ids (ix1 r)).toNat < 100000) :
    pick (F := Ideal) tab ids (ix2 r k) = tab (ix2 ⟨(ids (ix1 r)).toNat, h⟩ k) := by
  refine congrArg tab ?_
  have e : oneIx r = ix1 r := funext fun a => match a with | ⟨0, _⟩ => rfl
  funext a
  refine Fin.ext ?_
  match a with
  | ⟨0, _⟩ =>
    show (BitVec.toNat (ids (oneIx r))) % 100000 = (ids (ix1 r)).toNat
    rw [e]; exact Nat.mod_eq_of_lt h
  | ⟨1, _⟩ => rfl

theorem resA_row (r : Fin 16384) (k : Fin 16) {ids : S16384.Idx → BitVec 32} (hids : V1 m d (Proc.devRef .tc main_v2) = ids) (h : (ids (ix1 r)).toNat < 100000) :
    (resA (X1 m) d : S16384x16.Idx → EReal) (ix2 r k) = (m (d, Proc.devRef .tc main_arg1) : S100000x16.Idx → EReal) (ix2 ⟨(ids (ix1 r)).toNat, h⟩ k) := by
  subst hids
  rw [← V1_keeps m d main_arg1 (by decide)]
  exact pick_row _ _ r k h
theorem resB_row (r : Fin 16384) (k : Fin 16) {ids : S16384.Idx → BitVec 32} (hids : V1 m d (Proc.devRef .tc main_v5) = ids) (h : (ids (ix1 r)).toNat < 100000) :
    (resB (X1 m) d : S16384x16.Idx → EReal) (ix2 r k) = (m (d, Proc.devRef .tc main_arg2) : S100000x16.Idx → EReal) (ix2 ⟨(ids (ix1 r)).toNat, h⟩ k) := by
  subst hids
  rw [← V1_keeps m d main_arg2 (by decide)]
  exact pick_row _ _ r k h

end Operands

/-! ## The result -/

section Result

variable (m : (ℓ : Loc nD τ sig) → Buf (Elt Ideal) ℓ) (d : Dev nD)

/-- What the result holds: the score of each row. -/
def scores : S16384x1.Idx → EReal := fun i =>
  Score.score (fun k => (resA (X1 m) d : S16384x16.Idx → EReal) (ix2 (i 0) k)) (fun k => (resB (X1 m) d : S16384x16.Idx → EReal) (ix2 (i 0) k))
    (fun k => (m (d, Proc.devRef .tc main_arg0) : S16384x28.Idx → EReal) (ix2 (i 0) ⟨2 + k.val, by omega⟩))
    (m (d, Proc.devRef .tc main_arg3)) (m (d, Proc.devRef .tc main_arg4)) (m (d, Proc.devRef .tc main_arg5)) (m (d, Proc.devRef .tc main_arg6))
    (m (d, Proc.devRef .tc main_arg7)) (m (d, Proc.devRef .tc main_arg8)) (m (d, Proc.devRef .tc main_arg9)) (m (d, Proc.devRef .tc main_arg10))

/-- What step `t` writes back is its block of the scores. -/
theorem flushed_scores (t : Fin cfg1.N) :
    (mdat (V3 m) d).flushed 13 t = ((cfg1.win 13).blk t).view.read (Elt Ideal) (scores m d) := by
  show (cfg1.win 13).cut (grid1.coords t) ((mdat (V3 m) d).after 13 t) = _
  rw [mdat_after_out]
  funext y
  obtain ⟨p, rfl⟩ : ∃ p : Fin 2048, y = (ix2 p 0 : S2048x1.Idx) := ⟨y 0, (eq_ix2 (n0 := 2048) (n1 := 1) y).trans (congrArg (ix2 (y 0)) (Subsingleton.elim _ _))⟩
  have hr : ((cfg1.win 13).blk t).view.read (Elt Ideal) (scores m d) (ix2 p 0 : S2048x1.Idx) = scores m d (ix2 (rowAt t p) 0) :=
    congrArg (scores m d) (at_rows (moving t).2.2.2 _ p 0 _ rfl rfl)
  refine Eq.trans ?_ hr.symm
  refine (mlp_row (w1 := m (d, Proc.devRef .tc main_arg3)) (b1 := m (d, Proc.devRef .tc main_arg4)) (w2 := m (d, Proc.devRef .tc main_arg5))
    (b2 := m (d, Proc.devRef .tc main_arg6)) (w3 := m (d, Proc.devRef .tc main_arg7)) (b3 := m (d, Proc.devRef .tc main_arg8))
    (wo := m (d, Proc.devRef .tc main_arg9)) (bo := m (d, Proc.devRef .tc main_arg10)) ?_ ?_ ?_ ?_ ?_ ?_ ?_ ?_ ?_ ?_ p).trans ?_
  · rw [blk_3]; exact (weights_first m d).1
  · rw [blk_4]; exact (weights_first m d).2.1
  · rw [blk_5]; exact (weights_first m d).2.2
  · rw [blk_6]; exact (biases m d).1
  · rw [blk_7]; exact (weights_later m d).1
  · rw [blk_8]; exact (biases m d).2.1
  · rw [blk_9]; exact (weights_later m d).2.1
  · rw [blk_10]; exact (biases m d).2.2.1
  · rw [blk_11, (weights_later m d).2.2]; exact fun _ => rfl
  · rw [blk_12]; exact (biases m d).2.2.2
  · unfold scores
    simp only [blk_a, blk_b, blk_n, (gathered m d).1, (gathered m d).2, ix2_0]
    exact congrArg (fun nu => Score.score _ _ nu _ _ _ _ _ _ _ _) (funext fun k => numeric m d (rowAt t p) k)

/-- Every row is in some step's block. -/
theorem covered (i : S16384x1.Idx) : ∃ t : Fin cfg1.N, (cfg1.win 13).flush t = true ∧ i ∈ ((cfg1.win 13).blk t).view.set := by
  have h0 : (i 0).val < 16384 := (i 0).isLt
  have h1 : (i 1).val < 1 := (i 1).isLt
  have hN : cfg1.N = 8 := by decide
  let t : Fin cfg1.N := ⟨(i 0).val / 2048, by omega⟩
  refine ⟨t, flush1_13 t, ?_⟩
  have e := (moving t).2.2.2
  have ex : win1_13.xsize (grid1.coords t) = ![2048, 1] := by generalize t = t'; revert t'; decide +kernel
  show i ∈ ((View.whole main_v18).slice (win1_13.rect t)).set
  rw [View.set_slice_whole, Rect.mem_set_unit]
  intro a
  show win1_13.index t a * win1_13.size a ≤ (i a).val ∧ (i a).val < win1_13.index t a * win1_13.size a + win1_13.xsize (grid1.coords t) a
  rw [e, ex]
  match a with
  | ⟨0, _⟩ =>
    show (i 0).val / 2048 * 2048 ≤ (i 0).val ∧ (i 0).val < (i 0).val / 2048 * 2048 + 2048
    omega
  | ⟨1, _⟩ =>
    show 0 * 1 ≤ (i 1).val ∧ (i 1).val < 0 * 1 + 1
    omega

/-- So @main's result is the scores. -/
theorem mainOut_eq : mainOut m d = scores m d := by
  unfold mainOut V4 afterMlp
  refine (Pipeline.afterRegion_arr (pdats (V3 m) 0 d) (V3 m d) winFacts1.arr_inj 13).trans ?_
  exact (mdat (V3 m) d).arrAt_eq_of_cover 13 (scores m d) (fun t _ => flushed_scores m d t) covered

end Result

end Cert.Proof.RunKernelIdeal

end
-- ==== Proof.RefValue.lean ====
/-
  The reference's value: each row of its result is the score of that row, when the ids are in range.
-/
module

public import proofs.«01_k».proof.Proof.Score
public import proofs.«01_k».proof.Proof.Gen.ReferenceIdeal.Run
public import Idealize.ShloMosaic.Lib.Pointwise
public import Idealize.ShloMosaic.Lib.IdealHost
public import Idealize.ShloMosaic.Lib.ReduceAll
public import Idealize.ShloMosaic.Lib.WordCmp
public import Idealize.ShloMosaic.Lib.Routing.Ops

@[expose] public section

set_option maxRecDepth 16384

noncomputable section

namespace Cert.Proof.RefValue

open Cert.ReferenceIdeal Cert.ReferenceIdeal.Gen
open Idealize.ShloMosaic Idealize.ShloMosaic.TcCoe

/-- An id counted from the table's end when it is negative. -/
def wrapped (ids : IVec S16384 32) : IVec S16384 32 :=
  select (cmpi .slt ids (broadcastInDim S16384 ![] bcast_S_S16384 (constantI S_ 32 0#32)))
    (addi ids (broadcastInDim S16384 ![] bcast_S_S16384 (constantI S_ 32 100000#32))) ids

/-- The ids as a column. -/
def column (ids : IVec S16384 32) : IVec S16384x1 32 := broadcastInDim S16384x1 ![0] bcast_S16384_S16384x1_0 (wrapped ids)

/-- Which ids are in the table. -/
def inTable (ids : IVec S16384 32) : IVec S16384 1 :=
  Host.reduce IntOp.andi (andi (cmpi .sge (column ids) (broadcastInDim S16384x1 ![] bcast_S_S16384x1 (constantI S_ 32 0#32)))
      (cmpi .sle (column ids) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The reference's take: the rows of a table at the ids. -/
def take (tab : FVec Ideal S100000x16 .f32) (ids : IVec S16384 32) : FVec Ideal S16384x16 .f32 :=
  select (broadcastInDim S16384x16 ![0] bcast_S16384_S16384x16_0 (inTable ids))
    (Host.gather gather_S100000x16_S16384x1_S16384x16_1_0_n_n_0_1_116 tab (column ids))
    (broadcastInDim S16384x16 ![] bcast_S_S16384x16 (constant S_ .f32 0x7FC00000#32))

/-- The rest of the reference: the four layers on the joined features. -/
def layers (ea eb : FVec Ideal S16384x16 .f32) (nu : FVec Ideal S16384x26 .f32) (w1 : FVec Ideal S64x58 .f32) (b1 : FVec Ideal S64 .f32)
    (w2 : FVec Ideal S32x64 .f32) (b2 : FVec Ideal S32 .f32) (w3 : FVec Ideal S16x32 .f32) (b3 : FVec Ideal S16 .f32)
    (wo : FVec Ideal S1x16 .f32) (bo : FVec Ideal S1 .f32) : FVec Ideal S16384x1 .f32 :=
  let h0 : FVec Ideal S16384x58 .f32 := concatenate S16384x58 1 [⟨S16384x16, ea⟩, ⟨S16384x16, eb⟩, ⟨S16384x26, nu⟩] concatenates_S16384x16_S16384x16_S16384x26_S16384x58_d1
  let h1 : FVec Ideal S16384x64 .f32 := maximumf (addf (Host.dotGeneral dot_S16384x58_S58x64_S16384x64_1_0_0_1_n_n none h0 (transpose S58x64 [1, 0] w1 transposes_S64x58_S58x64_1_0))
      (broadcastInDim S16384x64 ![0, 1] bcast_S1x64_S16384x64_0_1 (broadcastInDim S1x64 ![1] bcast_S64_S1x64_1 b1)))
    (broadcastInDim S16384x64 ![] bcast_S_S16384x64 (constant S_ .f32 0x00000000#32))
  let h2 : FVec Ideal S16384x32 .f32 := maximumf (addf (Host.dotGeneral dot_S16384x64_S64x32_S16384x32_1_0_0_1_n_n none h1 (transpose S64x32 [1, 0] w2 transposes_S32x64_S64x32_1_0))
      (broadcastInDim S16384x32 ![0, 1] bcast_S1x32_S16384x32_0_1 (broadcastInDim S1x32 ![1] bcast_S32_S1x32_1 b2)))
    (broadcastInDim S16384x32 ![] bcast_S_S16384x32 (constant S_ .f32 0x00000000#32))
  let h3 : FVec Ideal S16384x16 .f32 := maximumf (addf (Host.dotGeneral dot_S16384x32_S32x16_S16384x16_1_0_0_1_n_n none h2 (transpose S32x16 [1, 0] w3 transposes_S16x32_S32x16_1_0))
      (broadcastInDim S16384x16 ![0, 1] bcast_S1x16_S16384x16_0_1 (broadcastInDim S1x16 ![1] bcast_S16_S1x16_1 b3)))
    (broadcastInDim S16384x16 ![] bcast_S_S16384x16 (constant S_ .f32 0x00000000#32))
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x16_S16x1_S16384x1_1_0_0_1_n_n none h3 (transpose S16x1 [1, 0] wo transposes_S1x16_S16x1_1_0))
        (broadcastInDim S16384x1 ![0, 1] bcast_S1x1_S16384x1_0_1 (broadcastInDim S1x1 ![1] bcast_S1_S1x1_1 bo))))))

/-- The two columns of ids. -/
def idsA (x : FVec Ideal S16384x28 .f32) : IVec S16384 32 :=
  fptosi 32 (shapeCast S16384 (extractStridedSlice S16384x1 ![0, 0] x slices_S16384x28_S16384x1_0_0) shapeCasts_S16384x1_S16384)
def idsB (x : FVec Ideal S16384x28 .f32) : IVec S16384 32 :=
  fptosi 32 (shapeCast S16384 (extractStridedSlice S16384x1 ![0, 1] x slices_S16384x28_S16384x1_0_1) shapeCasts_S16384x1_S16384)

/-- The reference's result in those words. -/
theorem res_eq (m : (ℓ : Loc nD τ sig) → Buf (Elt Ideal) ℓ) (c : Dev nD) :
    Cert.ReferenceIdeal.Value.res_main_v38 m c
      = layers (take (m ((c.tc : Thread nD τ).loc main_arg1)) (idsA (m ((c.tc : Thread nD τ).loc main_arg0))))
          (take (m ((c.tc : Thread nD τ).loc main_arg2)) (idsB (m ((c.tc : Thread nD τ).loc main_arg0))))
          (extractStridedSlice S16384x26 ![0, 2] (m ((c.tc : Thread nD τ).loc main_arg0)) slices_S16384x28_S16384x26_0_2)
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := rfl

/-- A sum over the 58 joined features, in the three parts they come from. -/
theorem joined_sum (ea eb : Fin 16 → EReal) (nu : Fin 26 → EReal) (w : Fin 58 → EReal) :
    (∑ x : Fin 58, (if h : x.val < 16 then ea ⟨x.val, h⟩ else if h : x.val - 16 < 16 then eb ⟨x.val - 16, h⟩
        else nu ⟨x.val - 16 - 16, by omega⟩) * w x)
      = ∑ k : Fin 16, ea k * w ⟨k.val, by omega⟩ + ∑ k : Fin 16, eb k * w ⟨16 + k.val, by omega⟩ + ∑ k : Fin 26, nu k * w ⟨32 + k.val, by omega⟩ := by
  refine (Fin.sum_univ_add (a := 32) (b := 26) _).trans (congrArg₂ (· + ·) ((Fin.sum_univ_add (a := 16) (b := 16) _).trans (congrArg₂ (· + ·) ?_ ?_)) ?_)
  · refine Finset.sum_congr rfl fun k _ => congrArg₂ (· * ·) ?_ rfl
    exact dif_pos k.isLt
  · refine Finset.sum_congr rfl fun k _ => congrArg₂ (· * ·) ?_ rfl
    refine (dif_neg (show ¬ 16 + k.val < 16 by omega)).trans ((dif_pos (show 16 + k.val - 16 < 16 by omega)).trans ?_)
    exact congrArg eb (Fin.ext (show 16 + k.val - 16 = k.val by omega))
  · refine Finset.sum_congr rfl fun k _ => congrArg₂ (· * ·) ?_ rfl
    refine (dif_neg (show ¬ 32 + k.val < 16 by omega)).trans ((dif_neg (show ¬ 32 + k.val - 16 < 16 by omega)).trans ?_)
    exact congrArg nu (Fin.ext (show 32 + k.val - 16 - 16 = k.val by omega))

/-- The layers at a row. -/
theorem layers_row (ea eb : FVec Ideal S16384x16 .f32) (nu : FVec Ideal S16384x26 .f32) (w1 : FVec Ideal S64x58 .f32) (b1 : FVec Ideal S64 .f32)
    (w2 : FVec Ideal S32x64 .f32) (b2 : FVec Ideal S32 .f32) (w3 : FVec Ideal S16x32 .f32) (b3 : FVec Ideal S16 .f32)
    (wo : FVec Ideal S1x16 .f32) (bo : FVec Ideal S1 .f32) (r : Fin 16384) :
    layers ea eb nu w1 b1 w2 b2 w3 b3 wo bo (ix2 r 0)
      = Score.score (fun k => ea (ix2 r k)) (fun k => eb (ix2 r k)) (fun k => nu (ix2 r k)) w1 b1 w2 b2 w3 b3 wo bo := by
  have h := fun j : Fin 64 => joined_sum (fun k => ea (ix2 r k)) (fun k => eb (ix2 r k)) (fun k => nu (ix2 r k)) (fun x => w1 (ix2 j x))
  unfold layers
  pointwise [Score.score, Score.layer, Score.first]
  simp only [h]

/-- The row of a table that an id in range names. -/
def rowOf (ids : IVec S16384 32) (h : ∀ j, (ids j).toNat < 100000) (r : Fin 16384) : Fin 100000 := ⟨(ids (ix1 r)).toNat, h _⟩

/-- An id in range is not counted from the end. -/
theorem column_row (ids : IVec S16384 32) (h : ∀ j, (ids j).toNat < 100000) (r : Fin 16384) : column ids (ix2 r 0) = ids (ix1 r) := by
  have hr := h (ix1 r)
  unfold column wrapped
  pointwise
  refine WordCmp.select_of_eq_zero ?_ _ _
  rw [WordCmp.cmpi_slt_zero]
  exact congrArg BitVec.ofBool (decide_eq_false (by omega))

/-- A word below the table's length lies between zero and the last row. -/
theorem word_in (v : BitVec 32) (h : v.toNat < 100000) : IntOp.andi (IntOp.cmpi .sge v 0#32) (IntOp.cmpi .sle v 99999#32) = 1#1 := by
  refine IntOp.andi_eq_one.2 ⟨?_, ?_⟩
  · rw [WordCmp.cmpi_sge_zero]
    exact congrArg BitVec.ofBool (decide_eq_true (by omega))
  · have e : v = BitVec.ofNat 32 v.toNat := by rw [BitVec.ofNat_toNat, BitVec.setWidth_eq]
    rw [e]
    exact (WordCmp.cmpi_sle_ofNat_eq_one_iff (w := 32) (b := 99999) (by omega) (by decide)).2 (by omega)

/-- Every id in range is in the table. -/
theorem inTable_one (ids : IVec S16384 32) (h : ∀ j, (ids j).toNat < 100000) (j : S16384.Idx) : inTable ids j = 1#1 := by
  unfold inTable
  refine Host.reduce_andi_one _ _ _ _ _ rfl fun i => ?_
  have hi : i = ix2 (n0 := 16384) (n1 := 1) (i 0) 0 := by
    refine (eq_ix2 i).trans (congrArg (ix2 (i 0)) (Subsingleton.elim _ _))
  rw [hi]
  have e := column_row ids h (i 0)
  generalize column ids = col at e ⊢
  generalize i 0 = r at e ⊢
  pointwise
  rw [e]
  exact word_in _ (h _)

/-- The take at a row whose id is in range is that row of the table. -/
theorem take_row (tab : FVec Ideal S100000x16 .f32) (ids : IVec S16384 32) (h : ∀ j, (ids j).toNat < 100000) (r : Fin 16384) (k : Fin 16) :
    take tab ids (ix2 r k) = tab (ix2 (rowOf ids h r) k) := by
  have e : ∀ {a b : Nat} (x : Fin a) (y : Fin b), ValueIdx.ix2 x y = ix2 x y := fun x y => by
    funext i
    match i with
    | ⟨0, _⟩ => rfl
    | ⟨1, _⟩ => rfl
  have hg := Routing.gather_row gather_S100000x16_S16384x1_S16384x16_1_0_n_n_0_1_116 rfl rfl rfl rfl rfl tab (column ids) r k (rowOf ids h r)
    (by rw [e, column_row ids h]; unfold rowOf; rw [BitVec.ofNat_toNat, BitVec.setWidth_eq]) (by decide)
  rw [e, e] at hg
  have h1 := inTable_one ids h (ix1 r)
  unfold take
  pointwise
  rw [h1, hg]
  exact WordCmp.select_one _ _

/-- The reference's result at a row, when every id is in range. -/
theorem res_row (m : (ℓ : Loc nD τ sig) → Buf (Elt Ideal) ℓ) (c : Dev nD)
    (ha : ∀ j, (idsA (m ((c.tc : Thread nD τ).loc main_arg0)) j).toNat < 100000)
    (hb : ∀ j, (idsB (m ((c.tc : Thread nD τ).loc main_arg0)) j).toNat < 100000) (r : Fin 16384) :
    Cert.ReferenceIdeal.Value.res_main_v38 m c (ix2 r 0)
      = Score.score (fun k => m ((c.tc : Thread nD τ).loc main_arg1) (ix2 (rowOf _ ha r) k))
          (fun k => m ((c.tc : Thread nD τ).loc main_arg2) (ix2 (rowOf _ hb r) k))
          (fun k => m ((c.tc : Thread nD τ).loc main_arg0) (ix2 r ⟨2 + k.val, by omega⟩))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [res_eq, layers_row]
  simp only [take_row _ _ ha, take_row _ _ hb]
  have e : ∀ k : Fin 26, extractStridedSlice S16384x26 ![0, 2] (m ((c.tc : Thread nD τ).loc main_arg0)) slices_S16384x28_S16384x26_0_2 (ix2 r k)
      = m ((c.tc : Thread nD τ).loc main_arg0) (ix2 r ⟨2 + k.val, by omega⟩) := fun k => by
    pointwise
  simp only [e]

end Cert.Proof.RefValue

end
-- ==== Proof.Algebraic.lean ====
/-
  The kernel against the reference, over extended reals: both results are, row by row, the score of the row.
-/
module

public import proofs.«01_k».proof.Proof.ValueKernelIdeal
public import proofs.«01_k».proof.Proof.RefValue

@[expose] public section

set_option maxRecDepth 16384

noncomputable section

namespace Cert.Proof.Algebraic

open Idealize.ShloMosaic Idealize.ShloMosaic.TcCoe Idealize.SL.Sem
open Cert.Proof.RunKernelIdeal (scores mainOut mainOut_eq run_all pre_ok args_kept X1 V1 V1_ids_a V1_ids_b resA resB resA_row resB_row)

/-- The two results are the same array when the arguments are and the ids are in range. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v38 m' c = mainOut m c := by
  rw [mainOut_eq]
  have hids : ∀ j, (RefValue.idsA (m ((c.tc : Thread Cert.KernelIdeal.nD Cert.KernelIdeal.τ).loc Cert.KernelIdeal.main_arg0)) j).toNat < 100000
      ∧ (RefValue.idsB (m ((c.tc : Thread Cert.KernelIdeal.nD Cert.KernelIdeal.τ).loc Cert.KernelIdeal.main_arg0)) j).toNat < 100000 :=
    Ranges.ids_ok _ _ _ _ _ _ _ _ _ _ _ (hpre c)
  have ha := fun j => (hids j).1
  have hb := fun j => (hids j).2
  rw [← h0] at ha hb
  funext i
  obtain ⟨r, rfl⟩ : ∃ r : Fin 16384, i = (ix2 r 0 : (⟨2, ![16384, 1]⟩ : Shape).Idx) :=
    ⟨i 0, (eq_ix2 (n0 := 16384) (n1 := 1) i).trans (congrArg (ix2 (i 0)) (Subsingleton.elim _ _))⟩
  refine (RefValue.res_row m' c ha hb r).trans ?_
  unfold scores
  have ea : ∀ k : Fin 16, m' ((c.tc : Thread Cert.ReferenceIdeal.nD Cert.ReferenceIdeal.τ).loc Cert.ReferenceIdeal.main_arg1) (ix2 (RefValue.rowOf _ ha r) k)
      = (resA (X1 m) c : (⟨2, ![16384, 16]⟩ : Shape).Idx → EReal) (ix2 r k) := fun k => by
    rw [h1]
    exact (resA_row m c r k ((V1_ids_a m c).trans (congrArg RefValue.idsA h0.symm)) (ha _)).symm
  have eb : ∀ k : Fin 16, m' ((c.tc : Thread Cert.ReferenceIdeal.nD Cert.ReferenceIdeal.τ).loc Cert.ReferenceIdeal.main_arg2) (ix2 (RefValue.rowOf _ hb r) k)
      = (resB (X1 m) c : (⟨2, ![16384, 16]⟩ : Shape).Idx → EReal) (ix2 r k) := fun k => by
    rw [h2]
    exact (resB_row m c r k ((V1_ids_b m c).trans (congrArg RefValue.idsB h0.symm)) (hb _)).symm
  simp only [ea, eb, ix2_0]
  rw [h0, h3, h4, h5, h6, h7, h8, h9, h10]

theorem algebraic : Cert.algebraic_KernelIdeal_ReferenceIdeal := by
  intro m ρ m' ρ' hpre hagree
  refine ⟨fun c => mainOut m c, ?_, ?_⟩
  · refine (θ_run Cert.KernelIdeal.defs _ _).mono (fun r h c => ?_) (run_all m ρ (pre_ok m hpre))
    have k := args_kept m c r.2 (h.1 c)
    exact ⟨h.1 c _ (Pipeline.devRef_mem_ucRefs (by decide)), k _ (by decide), k _ (by decide), k _ (by decide), k _ (by decide), k _ (by decide), k _ (by decide),
      k _ (by decide), k _ (by decide), k _ (by decide), k _ (by decide), k _ (by decide)⟩
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10⟩ := hagree c
    exact results_agree m m' hpre c h0 h1 h2 h3 h4 h5 h6 h7 h8 h9 h10

end Cert.Proof.Algebraic

end
-- ==== Proof.lean ====
/-
  The proof of `Cert.Claim` (proofs.«01_k».proof.Defs): the kernel's frame and its ideal program's, the reference's frame with and
  without the precondition, that the ideal program is the kernel's own text, and that over the extended reals the kernel's result
  is the reference's. The frames are `FrameKernel` and `FrameKernelIdeal`; the values `Algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.FrameKernel
public import proofs.«01_k».proof.Proof.FrameKernelIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's frame, from its run: it has no kernel, so its counters stay at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_in_range.Gen.facts,
  RunKernel.frame, RunKernelIdeal.frame, reference_frame, fun m ρ _ => reference_frame m ρ trivial, trivial, Algebraic.algebraic⟩

end Cert.Proof

end
